-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![8, 2048]⟩ ⟨2, ![64, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S2048x512 : Shape := ⟨2, ![2048, 512]⟩
abbrev S512x2048 : Shape := ⟨2, ![512, 2048]⟩
abbrev S64x512 : Shape := ⟨2, ![64, 512]⟩
abbrev S7x8x2048 : Shape := ⟨3, ![7, 8, 2048]⟩
abbrev S14 : Shape := ⟨1, ![14]⟩
abbrev S_ : Shape := ⟨0, ![]⟩
abbrev S1 : Shape := ⟨1, ![1]⟩
abbrev S1x8x2048 : Shape := ⟨3, ![1, 8, 2048]⟩
abbrev S8x2048 : Shape := ⟨2, ![8, 2048]⟩

abbrev nBuf : Space → Nat
  | .hbm => 13
  | .vmem => 33
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S64x2048, .f32⟩
  | .hbm, ⟨8, _⟩ => ⟨S64x2048, .f32⟩
  | .hbm, ⟨9, _⟩ => ⟨S64x2048, .f32⟩
  | .hbm, ⟨10, _⟩ => ⟨S64x2048, .f32⟩
  | .hbm, ⟨11, _⟩ => ⟨S64x2048, .f32⟩
  | .hbm, ⟨12, _⟩ => ⟨S8x2048, .f32⟩
  | .local _ .vmem, ⟨0, _⟩ => ⟨S64x2048, .f32⟩
  | .local _ .vmem, ⟨1, _⟩ => ⟨S2048x512, .f32⟩
  | .local _ .vmem, ⟨2, _⟩ => ⟨S2048x512, .f32⟩
  | .local _ .vmem, ⟨3, _⟩ => ⟨S512x2048, .f32⟩
  | .local _ .vmem, ⟨4, _⟩ => ⟨S512x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .bf16⟩
  | .local _ .vmem, ⟨10, _⟩ => ⟨S7x8x2048, .bf16⟩
  | .local _ .vmem, ⟨11, _⟩ => ⟨S64x2048, .f32⟩
  | .local _ .vmem, ⟨12, _⟩ => ⟨S2048x512, .f32⟩
  | .local _ .vmem, ⟨13, _⟩ => ⟨S2048x512, .f32⟩
  | .local _ .vmem, ⟨14, _⟩ => ⟨S512x2048, .f32⟩
  | .local _ .vmem, ⟨15, _⟩ => ⟨S512x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .bf16⟩
  | .local _ .vmem, ⟨21, _⟩ => ⟨S7x8x2048, .bf16⟩
  | .local _ .vmem, ⟨22, _⟩ => ⟨S64x2048, .f32⟩
  | .local _ .vmem, ⟨23, _⟩ => ⟨S2048x512, .f32⟩
  | .local _ .vmem, ⟨24, _⟩ => ⟨S2048x512, .f32⟩
  | .local _ .vmem, ⟨25, _⟩ => ⟨S512x2048, .f32⟩
  | .local _ .vmem, ⟨26, _⟩ => ⟨S512x2048, .f32⟩
  | .local _ .vmem, ⟨27, _⟩ => ⟨S64x2048, .f32⟩
  | .local _ .vmem, ⟨28, _⟩ => ⟨S64x2048, .f32⟩
  | .local _ .vmem, ⟨29, _⟩ => ⟨S64x2048, .f32⟩
  | .local _ .vmem, ⟨30, _⟩ => ⟨S8x2048, .f32⟩
  | .local _ .vmem, ⟨31, _⟩ => ⟨S64x2048, .bf16⟩
  | .local _ .vmem, ⟨32, _⟩ => ⟨S7x8x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 3 → Bool
  | ⟨0, _⟩ => false
  | ⟨1, _⟩ => false
  | ⟨2, _⟩ => false
  | _ => false

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  (ofTc nBuf bufTy 3 108 bufScoped semScoped dmaSemScoped tileCredit tileCredit_eq_zero tileCredit_pos).withBarriers [(0, 0), (1, 1), (2, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_scratch0 : Ref sig .tc := ⟨.vmem, 20, rfl⟩
abbrev cc3_scratch1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_scratch0 : Ref sig .tc := ⟨.vmem, 28, rfl⟩
abbrev cc5_stg0_0 : Ref sig .tc := ⟨.vmem, 29, rfl⟩
abbrev cc5_stg1_0 : Ref sig .tc := ⟨.vmem, 30, rfl⟩
abbrev cc5_scratch0 : Ref sig .tc := ⟨.vmem, 31, rfl⟩
abbrev cc5_scratch1 : Ref sig .tc := ⟨.vmem, 32, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc2_sem0_0 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc3_sem0_0 : DmaSem sig := 42
abbrev cc3_sem1_0 : DmaSem sig := 43
abbrev cc4_sem0_0 : DmaSem sig := 72
abbrev cc4_sem1_0 : DmaSem sig := 73
abbrev cc4_sem1_1 : DmaSem sig := 74
abbrev cc4_sem2_0 : DmaSem sig := 75
abbrev cc4_sem2_1 : DmaSem sig := 76
abbrev cc4_sem3_0 : DmaSem sig := 77
abbrev cc5_sem0_0 : DmaSem sig := 78
abbrev cc5_sem1_0 : DmaSem sig := 79
abbrev barrier0 : Sem sig := 0
abbrev barrier1 : Sem sig := 1
abbrev barrier2 : Sem sig := 2

abbrev nD : Nat := 8
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k1_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k1_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k1_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k1_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k1_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k1_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k1_off1 (d0 : Dev nD) (c1_i32_25 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v31 : BitVec 32 := Scalar.xori v2 c1_i32_25
  let c8_i32_26 : BitVec 32 := 8#32
  let v32 : BitVec 32 := Scalar.muli v31 c8_i32_26
  let c0_i32_34 : BitVec 32 := 0#32
  ![v32.toNat, 0]
def k1_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v31 : BitVec 32 := Scalar.xori v2 c1_i32_25
  let c1_i32_30 : BitVec 32 := 1#32
  let v33 : BitVec 32 := Scalar.muli v31 c1_i32_30
  let v34 : BitVec 32 := Scalar.addi c0_i32_31 v33
  v34.toNat
def k1_dev9 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_35 : BitVec 32 := 2#32
  let v42 : BitVec 32 := Scalar.xori v2 c2_i32_35
  let c1_i32_40 : BitVec 32 := 1#32
  let v44 : BitVec 32 := Scalar.muli v42 c1_i32_40
  let v45 : BitVec 32 := Scalar.addi c0_i32_41 v44
  v45.toNat
def k1_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v53 : BitVec 32 := Scalar.xori v2 c3_i32_45
  let c1_i32_50 : BitVec 32 := 1#32
  let v55 : BitVec 32 := Scalar.muli v53 c1_i32_50
  let v56 : BitVec 32 := Scalar.addi c0_i32_51 v55
  v56.toNat
def k1_dev11 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v64 : BitVec 32 := Scalar.xori v2 c4_i32_55
  let c1_i32_60 : BitVec 32 := 1#32
  let v66 : BitVec 32 := Scalar.muli v64 c1_i32_60
  let v67 : BitVec 32 := Scalar.addi c0_i32_61 v66
  v67.toNat
def k1_dev12 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_65 : BitVec 32 := 5#32
  let v75 : BitVec 32 := Scalar.xori v2 c5_i32_65
  let c1_i32_70 : BitVec 32 := 1#32
  let v77 : BitVec 32 := Scalar.muli v75 c1_i32_70
  let v78 : BitVec 32 := Scalar.addi c0_i32_71 v77
  v78.toNat
def k1_dev13 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_75 : BitVec 32 := 6#32
  let v86 : BitVec 32 := Scalar.xori v2 c6_i32_75
  let c1_i32_80 : BitVec 32 := 1#32
  let v88 : BitVec 32 := Scalar.muli v86 c1_i32_80
  let v89 : BitVec 32 := Scalar.addi c0_i32_81 v88
  v89.toNat
def k1_dev14 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_85 : BitVec 32 := 7#32
  let v97 : BitVec 32 := Scalar.xori v2 c7_i32_85
  let c1_i32_90 : BitVec 32 := 1#32
  let v99 : BitVec 32 := Scalar.muli v97 c1_i32_90
  let v100 : BitVec 32 := Scalar.addi c0_i32_91 v99
  v100.toNat
def k1_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_200 : BitVec 32 := 8#32
  let v192 : BitVec 32 := Scalar.muli v2 c8_i32_200
  let v193 : Index := Scalar.indexCast v192
  let c0_201 : Index := 0#32
  ![v193.toNat, 0]
def k1_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_221 : BitVec 32 := 8#32
  let v232 : BitVec 32 := Scalar.muli v2 c8_i32_221
  let c0_i32_226 : BitVec 32 := 0#32
  ![v232.toNat, 0]
def k1_dev15 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v230 : BitVec 32 := Scalar.xori v2 c1_i32_219
  let c1_i32_224 : BitVec 32 := 1#32
  let v233 : BitVec 32 := Scalar.muli v230 c1_i32_224
  let v234 : BitVec 32 := Scalar.addi c0_i32_225 v233
  v234.toNat
def k1_dev16 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_228 : BitVec 32 := 2#32
  let v241 : BitVec 32 := Scalar.xori v2 c2_i32_228
  let c1_i32_233 : BitVec 32 := 1#32
  let v244 : BitVec 32 := Scalar.muli v241 c1_i32_233
  let v245 : BitVec 32 := Scalar.addi c0_i32_234 v244
  v245.toNat
def k1_dev17 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_237 : BitVec 32 := 3#32
  let v252 : BitVec 32 := Scalar.xori v2 c3_i32_237
  let c1_i32_241 : BitVec 32 := 1#32
  let v255 : BitVec 32 := Scalar.muli v252 c1_i32_241
  let v256 : BitVec 32 := Scalar.addi c0_i32_242 v255
  v256.toNat
def k1_dev18 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_245 : BitVec 32 := 4#32
  let v263 : BitVec 32 := Scalar.xori v2 c4_i32_245
  let c1_i32_249 : BitVec 32 := 1#32
  let v266 : BitVec 32 := Scalar.muli v263 c1_i32_249
  let v267 : BitVec 32 := Scalar.addi c0_i32_250 v266
  v267.toNat
def k1_dev19 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_253 : BitVec 32 := 5#32
  let v274 : BitVec 32 := Scalar.xori v2 c5_i32_253
  let c1_i32_257 : BitVec 32 := 1#32
  let v277 : BitVec 32 := Scalar.muli v274 c1_i32_257
  let v278 : BitVec 32 := Scalar.addi c0_i32_258 v277
  v278.toNat
def k1_dev20 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_261 : BitVec 32 := 6#32
  let v285 : BitVec 32 := Scalar.xori v2 c6_i32_261
  let c1_i32_265 : BitVec 32 := 1#32
  let v288 : BitVec 32 := Scalar.muli v285 c1_i32_265
  let v289 : BitVec 32 := Scalar.addi c0_i32_266 v288
  v289.toNat
def k1_dev21 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_269 : BitVec 32 := 7#32
  let v296 : BitVec 32 := Scalar.xori v2 c7_i32_269
  let c1_i32_273 : BitVec 32 := 1#32
  let v299 : BitVec 32 := Scalar.muli v296 c1_i32_273
  let v300 : BitVec 32 := Scalar.addi c0_i32_274 v299
  v300.toNat
abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_12 : BitVec 32 := 0#32
  let v20 : BitVec 1 := Scalar.cmpi .ne v19 c0_i32_12
  v20

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := .none

def k3_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k3_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k3_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k3_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k3_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k3_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k3_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k3_off1 (d0 : Dev nD) (c1_i32_25 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v31 : BitVec 32 := Scalar.xori v2 c1_i32_25
  let c8_i32_26 : BitVec 32 := 8#32
  let v32 : BitVec 32 := Scalar.muli v31 c8_i32_26
  let c0_i32_34 : BitVec 32 := 0#32
  ![v32.toNat, 0]
def k3_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v31 : BitVec 32 := Scalar.xori v2 c1_i32_25
  let c1_i32_30 : BitVec 32 := 1#32
  let v33 : BitVec 32 := Scalar.muli v31 c1_i32_30
  let v34 : BitVec 32 := Scalar.addi c0_i32_31 v33
  v34.toNat
def k3_dev9 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_35 : BitVec 32 := 2#32
  let v42 : BitVec 32 := Scalar.xori v2 c2_i32_35
  let c1_i32_40 : BitVec 32 := 1#32
  let v44 : BitVec 32 := Scalar.muli v42 c1_i32_40
  let v45 : BitVec 32 := Scalar.addi c0_i32_41 v44
  v45.toNat
def k3_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v53 : BitVec 32 := Scalar.xori v2 c3_i32_45
  let c1_i32_50 : BitVec 32 := 1#32
  let v55 : BitVec 32 := Scalar.muli v53 c1_i32_50
  let v56 : BitVec 32 := Scalar.addi c0_i32_51 v55
  v56.toNat
def k3_dev11 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v64 : BitVec 32 := Scalar.xori v2 c4_i32_55
  let c1_i32_60 : BitVec 32 := 1#32
  let v66 : BitVec 32 := Scalar.muli v64 c1_i32_60
  let v67 : BitVec 32 := Scalar.addi c0_i32_61 v66
  v67.toNat
def k3_dev12 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_65 : BitVec 32 := 5#32
  let v75 : BitVec 32 := Scalar.xori v2 c5_i32_65
  let c1_i32_70 : BitVec 32 := 1#32
  let v77 : BitVec 32 := Scalar.muli v75 c1_i32_70
  let v78 : BitVec 32 := Scalar.addi c0_i32_71 v77
  v78.toNat
def k3_dev13 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_75 : BitVec 32 := 6#32
  let v86 : BitVec 32 := Scalar.xori v2 c6_i32_75
  let c1_i32_80 : BitVec 32 := 1#32
  let v88 : BitVec 32 := Scalar.muli v86 c1_i32_80
  let v89 : BitVec 32 := Scalar.addi c0_i32_81 v88
  v89.toNat
def k3_dev14 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_85 : BitVec 32 := 7#32
  let v97 : BitVec 32 := Scalar.xori v2 c7_i32_85
  let c1_i32_90 : BitVec 32 := 1#32
  let v99 : BitVec 32 := Scalar.muli v97 c1_i32_90
  let v100 : BitVec 32 := Scalar.addi c0_i32_91 v99
  v100.toNat
def k3_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_200 : BitVec 32 := 8#32
  let v192 : BitVec 32 := Scalar.muli v2 c8_i32_200
  let v193 : Index := Scalar.indexCast v192
  let c0_201 : Index := 0#32
  ![v193.toNat, 0]
def k3_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_221 : BitVec 32 := 8#32
  let v232 : BitVec 32 := Scalar.muli v2 c8_i32_221
  let c0_i32_226 : BitVec 32 := 0#32
  ![v232.toNat, 0]
def k3_dev15 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v230 : BitVec 32 := Scalar.xori v2 c1_i32_219
  let c1_i32_224 : BitVec 32 := 1#32
  let v233 : BitVec 32 := Scalar.muli v230 c1_i32_224
  let v234 : BitVec 32 := Scalar.addi c0_i32_225 v233
  v234.toNat
def k3_dev16 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_228 : BitVec 32 := 2#32
  let v241 : BitVec 32 := Scalar.xori v2 c2_i32_228
  let c1_i32_233 : BitVec 32 := 1#32
  let v244 : BitVec 32 := Scalar.muli v241 c1_i32_233
  let v245 : BitVec 32 := Scalar.addi c0_i32_234 v244
  v245.toNat
def k3_dev17 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_237 : BitVec 32 := 3#32
  let v252 : BitVec 32 := Scalar.xori v2 c3_i32_237
  let c1_i32_241 : BitVec 32 := 1#32
  let v255 : BitVec 32 := Scalar.muli v252 c1_i32_241
  let v256 : BitVec 32 := Scalar.addi c0_i32_242 v255
  v256.toNat
def k3_dev18 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_245 : BitVec 32 := 4#32
  let v263 : BitVec 32 := Scalar.xori v2 c4_i32_245
  let c1_i32_249 : BitVec 32 := 1#32
  let v266 : BitVec 32 := Scalar.muli v263 c1_i32_249
  let v267 : BitVec 32 := Scalar.addi c0_i32_250 v266
  v267.toNat
def k3_dev19 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_253 : BitVec 32 := 5#32
  let v274 : BitVec 32 := Scalar.xori v2 c5_i32_253
  let c1_i32_257 : BitVec 32 := 1#32
  let v277 : BitVec 32 := Scalar.muli v274 c1_i32_257
  let v278 : BitVec 32 := Scalar.addi c0_i32_258 v277
  v278.toNat
def k3_dev20 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_261 : BitVec 32 := 6#32
  let v285 : BitVec 32 := Scalar.xori v2 c6_i32_261
  let c1_i32_265 : BitVec 32 := 1#32
  let v288 : BitVec 32 := Scalar.muli v285 c1_i32_265
  let v289 : BitVec 32 := Scalar.addi c0_i32_266 v288
  v289.toNat
def k3_dev21 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_269 : BitVec 32 := 7#32
  let v296 : BitVec 32 := Scalar.xori v2 c7_i32_269
  let c1_i32_273 : BitVec 32 := 1#32
  let v299 : BitVec 32 := Scalar.muli v296 c1_i32_273
  let v300 : BitVec 32 := Scalar.addi c0_i32_274 v299
  v300.toNat
abbrev stage3_0 : Fin 1 → Memref sig .tc .vmem S64x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_12 : BitVec 32 := 0#32
  let v20 : BitVec 1 := Scalar.cmpi .ne v19 c0_i32_12
  v20

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := .none

def k5_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k5_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k5_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k5_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k5_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k5_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k5_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k5_off1 (d0 : Dev nD) (c1_i32_25 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v31 : BitVec 32 := Scalar.xori v2 c1_i32_25
  let c8_i32_26 : BitVec 32 := 8#32
  let v32 : BitVec 32 := Scalar.muli v31 c8_i32_26
  let c0_i32_34 : BitVec 32 := 0#32
  ![v32.toNat, 0]
def k5_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v31 : BitVec 32 := Scalar.xori v2 c1_i32_25
  let c1_i32_30 : BitVec 32 := 1#32
  let v33 : BitVec 32 := Scalar.muli v31 c1_i32_30
  let v34 : BitVec 32 := Scalar.addi c0_i32_31 v33
  v34.toNat
def k5_dev9 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_35 : BitVec 32 := 2#32
  let v42 : BitVec 32 := Scalar.xori v2 c2_i32_35
  let c1_i32_40 : BitVec 32 := 1#32
  let v44 : BitVec 32 := Scalar.muli v42 c1_i32_40
  let v45 : BitVec 32 := Scalar.addi c0_i32_41 v44
  v45.toNat
def k5_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v53 : BitVec 32 := Scalar.xori v2 c3_i32_45
  let c1_i32_50 : BitVec 32 := 1#32
  let v55 : BitVec 32 := Scalar.muli v53 c1_i32_50
  let v56 : BitVec 32 := Scalar.addi c0_i32_51 v55
  v56.toNat
def k5_dev11 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v64 : BitVec 32 := Scalar.xori v2 c4_i32_55
  let c1_i32_60 : BitVec 32 := 1#32
  let v66 : BitVec 32 := Scalar.muli v64 c1_i32_60
  let v67 : BitVec 32 := Scalar.addi c0_i32_61 v66
  v67.toNat
def k5_dev12 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_65 : BitVec 32 := 5#32
  let v75 : BitVec 32 := Scalar.xori v2 c5_i32_65
  let c1_i32_70 : BitVec 32 := 1#32
  let v77 : BitVec 32 := Scalar.muli v75 c1_i32_70
  let v78 : BitVec 32 := Scalar.addi c0_i32_71 v77
  v78.toNat
def k5_dev13 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_75 : BitVec 32 := 6#32
  let v86 : BitVec 32 := Scalar.xori v2 c6_i32_75
  let c1_i32_80 : BitVec 32 := 1#32
  let v88 : BitVec 32 := Scalar.muli v86 c1_i32_80
  let v89 : BitVec 32 := Scalar.addi c0_i32_81 v88
  v89.toNat
def k5_dev14 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_85 : BitVec 32 := 7#32
  let v97 : BitVec 32 := Scalar.xori v2 c7_i32_85
  let c1_i32_90 : BitVec 32 := 1#32
  let v99 : BitVec 32 := Scalar.muli v97 c1_i32_90
  let v100 : BitVec 32 := Scalar.addi c0_i32_91 v99
  v100.toNat
def k5_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_200 : BitVec 32 := 8#32
  let v192 : BitVec 32 := Scalar.muli v2 c8_i32_200
  let v193 : Index := Scalar.indexCast v192
  let c0_201 : Index := 0#32
  ![v193.toNat, 0]
abbrev stage5_0 : Fin 1 → Memref sig .tc .vmem S64x2048 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S8x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
-- ==== ReferenceIdeal.lean ====
abbrev S64x2048 : Shape := ⟨2, ![64, 2048]⟩
abbrev S2048x32768 : Shape := ⟨2, ![2048, 32768]⟩
abbrev S32768x2048 : Shape := ⟨2, ![32768, 2048]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x32768, .f32⟩
  | .hbm, ⟨2, _⟩ => ⟨S2048x32768, .f32⟩
  | .hbm, ⟨3, _⟩ => ⟨S2048x32768, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x2048, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x2048, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Body.lean ====
/- The three all-reduce calls' bodies, written once: the same operations in the same order as the printed bodies, but with
   the seven partners folded over a list, so that each phase of the protocol is proved once for a partner. -/
module

public import proofs.«01_k».proof.Proof.Gen.KernelIdeal.Skeleton

@[expose] public section

set_option synthInstance.maxSize 4096

noncomputable section

namespace Cert.KernelIdeal.Hand

open Idealize.ShloMosaic Idealize.SL.Sem
open Cert.KernelIdeal.Gen

variable {F : FTy → Type} [FloatOps F]

/-- A program of the TensorCore that returns nothing, and one of its operations. -/
abbrev TProg (F : FTy → Type) := Prog (TpuEff nD τ sig (Elt F) Λ₀ .tc) PUnit
abbrev TOp (F : FTy → Type) := TpuEff nD τ sig (Elt F) Λ₀ .tc PUnit

/-- One operation per partner, in the list's order. -/
def runL (l : List (Fin 7)) (f : Fin 7 → TOp F) (k : TProg F) : TProg F :=
  l.foldr (fun i p => .op (f i) fun _ => p) k
/-- Two operations per partner, in the list's order. -/
def runL2 (l : List (Fin 7)) (f g : Fin 7 → TOp F) (k : TProg F) : TProg F :=
  l.foldr (fun i p => .op (f i) fun _ => .op (g i) fun _ => p) k

/-- The seven partners. -/
abbrev all7 : List (Fin 7) := [0, 1, 2, 3, 4, 5, 6]

theorem inb14 (i : Fin 14) : ∀ a, (![i.val] : Fin 1 → Nat) a + S1.size a ≤ S14.size a := by revert i; decide
theorem inb7 (i : Fin 7) : ∀ a, (![i.val, 0, 0] : Fin 3 → Nat) a + S1x8x2048.size a ≤ S7x8x2048.size a := by revert i; decide

/-- The semaphore number `i` of an array of fourteen. -/
abbrev semAt (a : DmaSems sig S14) (i : Fin 14) : DmaSem sig :=
  ((a.slice (Rect.unit (s := S14) ![i.val] S1.size (inb14 i))).squeeze S_ squeezes_S1_S_).sem

/-- A partner's number among the fourteen semaphores: of the reduce-scatter step, and of the all-gather step. -/
abbrev lo (i : Fin 7) : Fin 14 := ⟨i.val, by omega⟩
abbrev hi (i : Fin 7) : Fin 14 := ⟨7 + i.val, by omega⟩

/-- The landing buffer's slot number `i`. -/
abbrev slotOf (m : Memref sig .tc .vmem S7x8x2048 .bf16) (i : Fin 7) : Memref sig .tc .vmem S8x2048 .bf16 :=
  (m.slice (Rect.unit (s := S7x8x2048) ![i.val, 0, 0] S1x8x2048.size (inb7 i)) (fun _ => rfl)).squeeze S8x2048 squeezes_S1x8x2048_S8x2048

/-- Eight rows at an offset. -/
abbrev rowsOf {e : EltTy} (m : Memref sig .tc .vmem S64x2048 e) (off : Fin 2 → Nat) (h : ∀ a, off a + S8x2048.size a ≤ S64x2048.size a) :
    Memref sig .tc .vmem S8x2048 e :=
  m.slice (Rect.unit (s := S64x2048) off S8x2048.size h) (fun _ => rfl)

theorem words7 (i : Fin 7) : (Rect.unit (s := S7x8x2048) ![i.val, 0, 0] S1x8x2048.size (inb7 i)).WholeWords (EltTy.packing .bf16) := by
  match i with
  | 0 => exact wordsbf16_S7x8x2048_S1x8x2048_0_0_0
  | 1 => exact wordsbf16_S7x8x2048_S1x8x2048_1_0_0
  | 2 => exact wordsbf16_S7x8x2048_S1x8x2048_2_0_0
  | 3 => exact wordsbf16_S7x8x2048_S1x8x2048_3_0_0
  | 4 => exact wordsbf16_S7x8x2048_S1x8x2048_4_0_0
  | 5 => exact wordsbf16_S7x8x2048_S1x8x2048_5_0_0
  | 6 => exact wordsbf16_S7x8x2048_S1x8x2048_6_0_0

section Ops

variable (arg2 : Memref sig .tc .vmem S64x2048 .bf16) (harg2 : arg2.IsWhole) (arg3 : Memref sig .tc .vmem S7x8x2048 .bf16) (harg3 : arg3.IsWhole)
  (arg4 arg5 : DmaSems sig S14)

/-- The reduce-scatter copy to partner `i` at device `p`: rows `off` of the rounded operand into the partner's slot `i`. -/
abbrev rsSend (p : Fin 7 → Dev nD) (off : Fin 7 → Fin 2 → Nat) (h : ∀ i a, off i a + S8x2048.size a ≤ S64x2048.size a)
    (hw : ∀ i, (Rect.unit (s := S64x2048) (off i) S8x2048.size (h i)).WholeWords (EltTy.packing .bf16)) (i : Fin 7) : TOp F :=
  .enqueueDma (rowsOf arg2 (off i) (h i)) (.remote (Dev.tc (p i)) (slotOf arg3 i) (.dma (semAt arg4 (lo i)))) (.dma (semAt arg5 (lo i)))
    (harg2.wordExact_slice rfl _ (hw i)) ((harg3.wordExact_slice rfl _ (words7 i)).reshape _ _) ⟨⟨rfl, Or.inl rfl⟩, trivial⟩
/-- The wait for that copy's source to be read. -/
abbrev rsWaitS (off : Fin 7 → Fin 2 → Nat) (h : ∀ i a, off i a + S8x2048.size a ≤ S64x2048.size a)
    (hw : ∀ i, (Rect.unit (s := S64x2048) (off i) S8x2048.size (h i)).WholeWords (EltTy.packing .bf16)) (i : Fin 7) : TOp F :=
  .waitDma2 (semAt arg4 (lo i)) (slotOf arg3 i) (rowsOf arg2 (off i) (h i))
    ((harg3.wordExact_slice rfl _ (words7 i)).reshape _ _) (harg2.wordExact_slice rfl _ (hw i))
/-- The wait for the partner's copy into the slot `i` here. -/
abbrev rsWaitR (off : Fin 7 → Fin 2 → Nat) (h : ∀ i a, off i a + S8x2048.size a ≤ S64x2048.size a)
    (hw : ∀ i, (Rect.unit (s := S64x2048) (off i) S8x2048.size (h i)).WholeWords (EltTy.packing .bf16)) (i : Fin 7) : TOp F :=
  .waitDma2 (semAt arg5 (lo i)) (rowsOf arg2 (off i) (h i)) (slotOf arg3 i)
    (harg2.wordExact_slice rfl _ (hw i)) ((harg3.wordExact_slice rfl _ (words7 i)).reshape _ _)
/-- The all-gather copy of the own rows to partner `i`. -/
abbrev agSend (p : Fin 7 → Dev nD) (off : Fin 2 → Nat) (h : ∀ a, off a + S8x2048.size a ≤ S64x2048.size a)
    (hw : (Rect.unit (s := S64x2048) off S8x2048.size h).WholeWords (EltTy.packing .bf16)) (i : Fin 7) : TOp F :=
  .enqueueDma (rowsOf arg2 off h) (.remote (Dev.tc (p i)) (rowsOf arg2 off h) (.dma (semAt arg4 (hi i)))) (.dma (semAt arg5 (hi i)))
    (harg2.wordExact_slice rfl _ hw) (harg2.wordExact_slice rfl _ hw) ⟨⟨rfl, Or.inl rfl⟩, trivial⟩
/-- A wait on a semaphore of the all-gather step. -/
abbrev agWait (sems : DmaSems sig S14) (off : Fin 2 → Nat) (h : ∀ a, off a + S8x2048.size a ≤ S64x2048.size a)
    (hw : (Rect.unit (s := S64x2048) off S8x2048.size h).WholeWords (EltTy.packing .bf16)) (i : Fin 7) : TOp F :=
  .waitDma2 (semAt sems (hi i)) (rowsOf arg2 off h) (rowsOf arg2 off h) (harg2.wordExact_slice rfl _ hw) (harg2.wordExact_slice rfl _ hw)
/-- The signal to partner `i`'s barrier semaphore. -/
abbrev barSignal (b : Sem sig) (p : Fin 7 → Dev nD) (i : Fin 7) : TOp F := .semSignal (Dev.tc (p i)) b ((1#32 : BitVec 32).toInt)

end Ops

/-- The partners as the kernel computes them: at the signals, at the reduce-scatter copies, at the all-gather copies. -/
abbrev pSig (d : Dev nD) : Fin 7 → Dev nD :=
  ![⟨k1_dev1 d, k1_dev1_lt d⟩, ⟨k1_dev2 d, k1_dev2_lt d⟩, ⟨k1_dev3 d, k1_dev3_lt d⟩, ⟨k1_dev4 d, k1_dev4_lt d⟩, ⟨k1_dev5 d, k1_dev5_lt d⟩,
    ⟨k1_dev6 d, k1_dev6_lt d⟩, ⟨k1_dev7 d, k1_dev7_lt d⟩]
abbrev pRs (d : Dev nD) : Fin 7 → Dev nD :=
  ![⟨k1_dev8 d, k1_dev8_lt d⟩, ⟨k1_dev9 d, k1_dev9_lt d⟩, ⟨k1_dev10 d, k1_dev10_lt d⟩, ⟨k1_dev11 d, k1_dev11_lt d⟩, ⟨k1_dev12 d, k1_dev12_lt d⟩,
    ⟨k1_dev13 d, k1_dev13_lt d⟩, ⟨k1_dev14 d, k1_dev14_lt d⟩]
abbrev pAg (d : Dev nD) : Fin 7 → Dev nD :=
  ![⟨k1_dev15 d, k1_dev15_lt d⟩, ⟨k1_dev16 d, k1_dev16_lt d⟩, ⟨k1_dev17 d, k1_dev17_lt d⟩, ⟨k1_dev18 d, k1_dev18_lt d⟩, ⟨k1_dev19 d, k1_dev19_lt d⟩,
    ⟨k1_dev20 d, k1_dev20_lt d⟩, ⟨k1_dev21 d, k1_dev21_lt d⟩]
/-- The rows sent to partner `i`. -/
abbrev offP (d : Dev nD) (i : Fin 7) : Fin 2 → Nat := k1_off1 d (BitVec.ofNat 32 (1 + i.val))

/-- The whole 64-row buffer as a rectangle. -/
abbrev rAll : Rect S64x2048 := Rect.unit (s := S64x2048) ![0, 0] S64x2048.size inb_S64x2048_S64x2048_0_0
/-- Slot `i` of the landing buffer as a rectangle. -/
abbrev rSlot (i : Fin 7) : Rect S7x8x2048 := Rect.unit (s := S7x8x2048) ![i.val, 0, 0] S1x8x2048.size (inb7 i)
/-- The own rows as a rectangle. -/
abbrev rOwn (d : Dev nD) : Rect S64x2048 := Rect.unit (s := S64x2048) (k1_off2 d) S8x2048.size (k1_off2_inb d)

section Bodies

variable (b : Sem sig) (arg0 : Memref sig .tc .vmem S64x2048 .f32)
  (arg2 : Memref sig .tc .vmem S64x2048 .bf16) (harg2 : arg2.IsWhole) (arg3 : Memref sig .tc .vmem S7x8x2048 .bf16) (harg3 : arg3.IsWhole)
  (arg4 arg5 : DmaSems sig S14)

/-- The reduce-scatter half: barrier, rounding, seven copies, their waits. -/
def headP (d : Dev nD) (k : TProg F) : TProg F :=
  runL all7 (barSignal b (pSig d)) <|
  .op (.semWait b ((7#32 : BitVec 32).toInt)) fun _ =>
  .op (.load arg0 rAll.toLoadRect (View.loadsAt_vmem h_S64x2048)) fun v25 =>
  .op (.load arg2 rAll.toLoadRect (View.loadsAt_vmem h_S64x2048)) fun _ =>
  .op (.store arg2 rAll (k1_pay2 v25) Finset.univ (View.stores_vmem h_S64x2048 (harg2.storeExact_slice rfl _ packedbf16_S64x2048_S64x2048_0_0) (fun _ => rfl)) (.inl rfl)) fun _ =>
  runL all7 (rsSend arg2 harg2 arg3 harg3 arg4 arg5 (pRs d) (offP d) (fun i => k1_off1_inb d i) (fun i => k1_off1_wordsbf16 d i)) <|
  runL2 all7 (rsWaitS arg2 harg2 arg3 harg3 arg4 (offP d) (fun i => k1_off1_inb d i) (fun i => k1_off1_wordsbf16 d i))
    (rsWaitR arg2 harg2 arg3 harg3 arg5 (offP d) (fun i => k1_off1_inb d i) (fun i => k1_off1_wordsbf16 d i)) k

/-- The reads of the landed slots and of the own rows of the operand. -/
def sumP (d : Dev nD) (k : (FVec F S8x2048 .f32) → FVec F S8x2048 .bf16 → Vec F S1x8x2048 .bf16 → TProg F) : TProg F :=
  .op (.load arg0 (rOwn d).toLoadRect (View.loadsAt_vmem h_S8x2048)) fun v194 =>
  .op (.load arg3 (rSlot 0).toLoadRect (View.loadsAt_vmem h_S1x8x2048)) fun v196 =>
  .op (.load arg3 (rSlot 1).toLoadRect (View.loadsAt_vmem h_S1x8x2048)) fun v200 =>
  .op (.load arg3 (rSlot 2).toLoadRect (View.loadsAt_vmem h_S1x8x2048)) fun v204 =>
  .op (.load arg3 (rSlot 3).toLoadRect (View.loadsAt_vmem h_S1x8x2048)) fun v208 =>
  .op (.load arg3 (rSlot 4).toLoadRect (View.loadsAt_vmem h_S1x8x2048)) fun v212 =>
  .op (.load arg3 (rSlot 5).toLoadRect (View.loadsAt_vmem h_S1x8x2048)) fun v216 =>
  .op (.load arg3 (rSlot 6).toLoadRect (View.loadsAt_vmem h_S1x8x2048)) fun v220 =>
  k (k1_pay3 v194 v196 v200 v204 v208 v212) (k1_pay4 v216) v220

/-- The all-gather half. -/
def tailP (arg1 : Memref sig .tc .vmem S64x2048 .f32) (d : Dev nD) (v215 : FVec F S8x2048 .f32) (v217 : FVec F S8x2048 .bf16) (v220 : Vec F S1x8x2048 .bf16) : TProg F :=
  .op (.load arg2 (rOwn d).toLoadRect (View.loadsAt_vmem h_S8x2048)) fun _ =>
  .op (.store arg2 (rOwn d) (k1_pay6 v215 v217 v220) Finset.univ (View.stores_vmem h_S8x2048 (harg2.storeExact_slice rfl _ (k1_off2_packedbf16 d)) (fun _ => rfl)) (.inl rfl)) fun _ =>
  runL all7 (agSend arg2 harg2 arg4 arg5 (pAg d) (k1_off3 d) (k1_off3_inb d) (k1_off3_wordsbf16 d)) <|
  runL2 all7 (agWait arg2 harg2 arg4 (k1_off3 d) (k1_off3_inb d) (k1_off3_wordsbf16 d)) (agWait arg2 harg2 arg5 (k1_off3 d) (k1_off3_inb d) (k1_off3_wordsbf16 d)) <|
  .op (.load arg2 rAll.toLoadRect (View.loadsAt_vmem h_S64x2048)) fun v377 =>
  .op (.load arg1 rAll.toLoadRect (View.loadsAt_vmem h_S64x2048)) fun _ =>
  .op (.store arg1 rAll (k1_pay1 v377) Finset.univ (View.stores_vmem_bits_univ h_S64x2048 rfl) (.inl rfl)) fun _ =>
  .op (.load arg1 (rOwn d).toLoadRect (View.loadsAt_vmem h_S8x2048)) fun _ =>
  .op (.store arg1 (rOwn d) (k1_pay5 v215 v217 v220) Finset.univ (View.stores_vmem_bits_univ h_S8x2048 rfl) (.inl rfl)) fun _ =>
  .ret ⟨⟩

/-- What the last call does instead of the all-gather: the own rows are the result. -/
def endP (arg1 : Memref sig .tc .vmem S8x2048 .f32) (v215 : FVec F S8x2048 .f32) (v217 : FVec F S8x2048 .bf16) (v220 : Vec F S1x8x2048 .bf16) : TProg F :=
  .op (.load arg1 (Rect.unit (s := S8x2048) ![0, 0] S8x2048.size inb_S8x2048_S8x2048_0_0).toLoadRect (View.loadsAt_vmem h_S8x2048)) fun _ =>
  .op (.store arg1 (Rect.unit (s := S8x2048) ![0, 0] S8x2048.size inb_S8x2048_S8x2048_0_0) (k1_pay5 v215 v217 v220) Finset.univ (View.stores_vmem_bits_univ h_S8x2048 rfl) (.inl rfl)) fun _ =>
  .ret ⟨⟩

/-- An all-reduce body with the all-gather, and one that stops after the reduce-scatter. -/
def arBody (arg1 : Memref sig .tc .vmem S64x2048 .f32) : TProg F :=
  .op .deviceId fun d => headP b arg0 arg2 harg2 arg3 harg3 arg4 arg5 d (sumP arg0 arg3 d (tailP arg2 harg2 arg4 arg5 arg1 d))
def rsBody (arg1 : Memref sig .tc .vmem S8x2048 .f32) : TProg F :=
  .op .deviceId fun d => headP b arg0 arg2 harg2 arg3 harg3 arg4 arg5 d (sumP arg0 arg3 d (endP arg1))

end Bodies

set_option maxRecDepth 65536 in
theorem cc1_eq (arg0 harg0 arg1 harg1 arg2 harg2 arg3 harg3 arg4 arg5) :
    cc1__allreduce_body (F := F) arg0 harg0 arg1 harg1 arg2 harg2 arg3 harg3 arg4 arg5 = arBody (sig.barrier 0 rfl) arg0 arg2 harg2 arg3 harg3 arg4 arg5 arg1 := rfl
set_option maxRecDepth 65536 in
theorem cc3_eq (arg0 harg0 arg1 harg1 arg2 harg2 arg3 harg3 arg4 arg5) :
    cc3__allreduce_body (F := F) arg0 harg0 arg1 harg1 arg2 harg2 arg3 harg3 arg4 arg5 = arBody (sig.barrier 1 rfl) arg0 arg2 harg2 arg3 harg3 arg4 arg5 arg1 := rfl
set_option maxRecDepth 65536 in
theorem cc5_eq (arg0 harg0 arg1 harg1 arg2 harg2 arg3 harg3 arg4 arg5) :
    cc5__allreduce_body (F := F) arg0 harg0 arg1 harg1 arg2 harg2 arg3 harg3 arg4 arg5 = rsBody (sig.barrier 2 rfl) arg0 arg2 harg2 arg3 harg3 arg4 arg5 arg1 := rfl

end Cert.KernelIdeal.Hand

end
-- ==== Proof.Own.lean ====
/- Owning a buffer of one device at named contents, and the operations on it: a load, a store, a copy to another device. -/
module

public import proofs.«01_k».proof.Proof.Body
public import Idealize.ShloMosaic.Lib.Pipeline.Regions
public import Idealize.ShloMosaic.Lib.Pipeline.Kit
public import Idealize.ShloMosaic.Lib.Pipeline.RegionTalk
public import Idealize.ShloMosaic.Lib.Pipeline.RegionArrays
public import Idealize.ShloMosaic.Lib.Pipeline.Value
public import Idealize.ShloMosaic.Lib.Memref
public import Idealize.ShloMosaic.Lib.Rounds
public import Idealize.ShloMosaic.Lib.StableHlo
public import Idealize.ShloMosaic.Lib.Tactic
public import Idealize.ShloMosaic.Harness.Basic

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

/-- The resources: the pipeline's own rounds, and the all-reduce protocol's, whose duties are numbered by the seven partners. -/
abbrev UP : Type := UR sig nD τ
abbrev UB : Type := URounds (GSem nD τ sig) (Fin 7)
abbrev UU : Type := UP × UB

/-- No procedure is called with a variant. -/
abbrev 𝒱₀ : Variants := Variants.none

local notation "𝕄" => MT nD τ sig Unit (Elt F) ℕ UU ℕ

abbrev EP : Emb UP (MT nD τ sig Unit (Elt F) ℕ UU ℕ) := embL
abbrev ER : Emb UB (MT nD τ sig Unit (Elt F) ℕ UU ℕ) := embR

/-- The pre- and postconditions of the programs: nothing is called. -/
abbrev WP (c : Dev nD) (p : TProg F) (Q : PUnit → sProp (MT nD τ sig Unit (Elt F) ℕ UU ℕ)) : sProp (MT nD τ sig Unit (Elt F) ℕ UU ℕ) :=
  wp frame (wpE (defs₀ (F := F)) 𝒱₀ (c : Thread nD τ) none) Set.univ p Q

variable (c : Dev nD) {s : Shape} {e : EltTy} {q : PosShare TreeShare}

/-- A load through an owned memref gives the contents at the rectangle's places. -/
theorem load_owns (m : Memref sig .tc .vmem s e) (r : Rect s) (hl : m.view.LoadsAt r.toLoadRect) (k : (r.shape.Idx → Elt F e) → TProg F)
    (X : s.Idx → Elt F e) (Q : PUnit → sProp 𝕄) :
    owns (c : Thread nD τ) m q X
      ⊢ iprop((owns (c : Thread nD τ) m q X -∗ WP c (k fun j => X (r.emb j)) Q) -∗ WP c (.op (.load m r.toLoadRect hl) k) Q) := by
  iintro H Hk
  ihave H' := (show owns (c : Thread nD τ) m q X ⊢ iprop(∃ f, ⌜m.view.read (Elt F) f = X⌝ ∗ m.view.loc (c : Thread nD τ) ↦[m.view.set]{q} f) from .rfl) $$ H
  icases H' with ⟨%f, %hf, H⟩
  iapply (wp_load_rect (defs := defs₀ (F := F)) 𝒱₀ (c : Thread nD τ) none Set.univ (m := m) (r := r) (S := m.view.set) (View.set_slice_subset _ _)) $$ H
  iintro H
  have hv : (m.access r).read (Elt F) f = fun j => X (r.emb j) := by rw [← hf]; rfl
  rw [hv]
  iapply Hk
  rw [← hf]
  iapply (owns_intro (c : Thread nD τ) m q f)
  iexact H

/-- A store through an owned memref replaces the contents at the rectangle's places. -/
theorem store_owns [∀ e, Nonempty (Elt F e)] (m : Memref sig .tc .vmem s e) (r : Rect s) (w : r.shape.Idx → Elt F e)
    (hx : (m.access r).Stores Finset.univ) (hm) (k : PUnit → TProg F)
    (X : s.Idx → Elt F e) (Q : PUnit → sProp 𝕄) :
    owns (c : Thread nD τ) m fullShare X
      ⊢ iprop((owns (c : Thread nD τ) m fullShare (r.overlay X w) -∗ WP c (k ⟨⟩) Q) -∗ WP c (.op (.store m r w Finset.univ hx hm) k) Q) := by
  iintro H Hk
  ihave H' := (show owns (c : Thread nD τ) m fullShare X ⊢ iprop(∃ f, ⌜m.view.read (Elt F) f = X⌝ ∗ m.view.loc (c : Thread nD τ) ↦[m.view.set]{fullShare} f) from .rfl) $$ H
  icases H' with ⟨%f, %hf, H⟩
  iapply (wp_store (defs := defs₀ (F := F)) 𝒱₀ (c : Thread nD τ) none Set.univ (m := m) (r := r) (S := m.view.set) (View.set_slice_subset _ _)) $$ H
  iintro H
  iapply Hk
  have hv : m.view.read (Elt F) ((m.access r).write (Elt F) f w Finset.univ) = r.overlay X w := by
    funext j
    by_cases hj : j ∈ r.set
    · obtain ⟨i, -, rfl⟩ := Finset.mem_map.mp (by rw [← Rect.map_emb_univ] at hj; exact hj)
      rw [Rect.overlay_emb]
      exact View.read_slice_write_emb r f w (Finset.mem_univ i)
    · rw [Rect.overlay_of_not_mem _ _ _ hj, ← hf]
      exact View.read_slice_write_of_not_mem r f w _ (by rw [Rect.map_emb_univ]; exact hj)
  rw [← hv]
  iapply (owns_intro (c : Thread nD τ) m fullShare)
  iexact H

/-- A store through a memref, at a rectangle whose slice is owned. -/
theorem store_slice (m : Memref sig .tc .vmem s e) (r : Rect s) (hr : ∀ a, r.stride a = 1) (w : r.shape.Idx → Elt F e)
    (hx : (m.access r).Stores Finset.univ) (hm) (k : PUnit → TProg F)
    (X : r.shape.Idx → Elt F e) (Q : PUnit → sProp 𝕄) :
    owns (c : Thread nD τ) (m.slice r hr) fullShare X
      ⊢ iprop((owns (c : Thread nD τ) (m.slice r hr) fullShare w -∗ WP c (k ⟨⟩) Q) -∗ WP c (.op (.store m r w Finset.univ hx hm) k) Q) := by
  iintro H Hk
  ihave H' := (show owns (c : Thread nD τ) (m.slice r hr) fullShare X
    ⊢ iprop(∃ f, ⌜(m.slice r hr).view.read (Elt F) f = X⌝ ∗ (m.access r).loc (c : Thread nD τ) ↦[(m.access r).set]{fullShare} f) from .rfl) $$ H
  icases H' with ⟨%f, -, H⟩
  iapply (wp_store (defs := defs₀ (F := F)) 𝒱₀ (c : Thread nD τ) none Set.univ (m := m) (r := r) (Mk := Finset.univ) (S := (m.access r).set) (Finset.Subset.refl _)) $$ H
  iintro H
  iapply Hk
  have hv : (m.slice r hr).view.read (Elt F) ((m.access r).write (Elt F) f w Finset.univ) = w := View.read_write_univ f w
  rw [← hv]
  iapply (owns_intro (c : Thread nD τ) (m.slice r hr) fullShare)
  rw [hv]
  iexact H

/-- A load through a memref, at a rectangle whose slice is owned. -/
theorem load_slice (m : Memref sig .tc .vmem s e) (r : Rect s) (hr : ∀ a, r.stride a = 1) (hl : m.view.LoadsAt r.toLoadRect)
    (k : (r.shape.Idx → Elt F e) → TProg F) (X : r.shape.Idx → Elt F e) (Q : PUnit → sProp 𝕄) :
    owns (c : Thread nD τ) (m.slice r hr) q X
      ⊢ iprop((owns (c : Thread nD τ) (m.slice r hr) q X -∗ WP c (k X) Q) -∗ WP c (.op (.load m r.toLoadRect hl) k) Q) := by
  iintro H Hk
  ihave H' := (show owns (c : Thread nD τ) (m.slice r hr) q X
    ⊢ iprop(∃ f, ⌜(m.slice r hr).view.read (Elt F) f = X⌝ ∗ (m.access r).loc (c : Thread nD τ) ↦[(m.access r).set]{q} f) from .rfl) $$ H
  icases H' with ⟨%f, %hf, H⟩
  iapply (wp_load_rect (defs := defs₀ (F := F)) 𝒱₀ (c : Thread nD τ) none Set.univ (m := m) (r := r) (Finset.Subset.refl _)) $$ H
  iintro H
  rw [show (m.access r).read (Elt F) f = X from hf]
  iapply Hk
  rw [← hf]
  iapply (owns_intro (c : Thread nD τ) (m.slice r hr) q f)
  iexact H

theorem casts_slot : S8x2048.ShapeCasts S1x8x2048 := by decide

/-- Eight rows as the block of one slot. -/
def unsq {α : Type} (X : S8x2048.Idx → α) : S1x8x2048.Idx → α := shapeCast S1x8x2048 X casts_slot

theorem unsq_of (m : Memref sig .tc .vmem S7x8x2048 .bf16) (i : Fin 7) (f : m.view.ty.Contents (Elt F)) :
    unsq ((slotOf m i).view.read (Elt F) f) = (m.slice (rSlot i) (fun _ => rfl)).view.read (Elt F) f := by
  unfold unsq
  rw [Memref.read_squeeze_slice m (rSlot i) (fun _ => rfl) squeezes_S1x8x2048_S8x2048 shapeCasts_S1x8x2048_S8x2048 f]
  exact shapeCast_shapeCast _ _ _

/-- Owning a slot of the landing buffer is owning its block. -/
theorem owns_slot (m : Memref sig .tc .vmem S7x8x2048 .bf16) (i : Fin 7) (X : S8x2048.Idx → Elt F .bf16) :
    (owns (c : Thread nD τ) (slotOf m i) q X : sProp 𝕄) ⊢ owns (c : Thread nD τ) (m.slice (rSlot i) (fun _ => rfl)) q (unsq X) := by
  unfold owns
  iintro ⟨%f, %hf, H⟩
  iexists f
  isplitr
  · ipureintro; rw [← hf]; exact (unsq_of m i f).symm
  · rw [show (slotOf m i).view.set = (m.slice (rSlot i) (fun _ => rfl)).view.set from View.set_reshape _ _]
    iexact H
theorem owns_slot_any (m : Memref sig .tc .vmem S7x8x2048 .bf16) (i : Fin 7) (X : S1x8x2048.Idx → Elt F .bf16) :
    (owns (c : Thread nD τ) (m.slice (rSlot i) (fun _ => rfl)) q X : sProp 𝕄) ⊢ iprop(∃ Y, owns (c : Thread nD τ) (slotOf m i) q Y) := by
  unfold owns
  iintro ⟨%f, %hf, H⟩
  iexists _, f
  isplitr
  · ipureintro; rfl
  · rw [show (slotOf m i).view.set = (m.slice (rSlot i) (fun _ => rfl)).view.set from View.set_reshape _ _]
    iexact H

/-- What a copy leaves at its destination, owned at what was owned at the source. -/
theorem owns_landed {p : Dev nD} {src dst : Memref sig .tc .vmem s e} (fs : src.view.ty.Contents (Elt F)) (fd : dst.view.ty.Contents (Elt F)) :
    (dst.view.loc (p : Thread nD τ) ↦[dst.view.set]{fullShare} (dst.view.write (Elt F) fd (src.view.read (Elt F) fs) Finset.univ) : sProp 𝕄)
      ⊢ owns (p : Thread nD τ) dst fullShare (src.view.read (Elt F) fs) := by
  have h := owns_intro (nD := nD) (τ := τ) (sig := sig) (Ix := Unit) (Val := Elt F) (Name := ℕ) (U := UU) (Lvl := ℕ)
    (p : Thread nD τ) dst fullShare (dst.view.write (Elt F) fd (src.view.read (Elt F) fs) Finset.univ)
  rw [View.read_write_univ] at h
  exact h

section Send

variable (Rd : Rounds.Schedule (GSem nD τ sig) (Fin 7) (MT nD τ sig Unit (Elt F) ℕ UU ℕ))

/-- A copy to device `p` that pays its own semaphore with the source back and the other's with the destination. -/
theorem send_owns [hRd : ∀ g r d, BI.Storable (upEmb : UEmb _ 𝕄) (Rd.payload g r d)] (p : Dev nD) {src dst : Memref sig .tc .vmem s e} {hsc : dst.view.ref.isScScratch = false} {sS sR : DmaSem sig}
    {hsrc : src.view.WordExact} {hdst : dst.view.WordExact} {hsem : DmaTarget.Typed .vmem (.dma sR) (.remote (p : Thread nD τ) dst (.dma sS) hsc)}
    {k : PUnit → TProg F} (X Y : s.Idx → Elt F e) (κ₁ κ₂ : ℕ) (N : ℕ) (hN : dst.view.amount (.dma sR) = N)
    (hd₁ : 0 ∈ Rd.duties ((c : Thread nD τ), .dma sS) 0) (hd₂ : 0 ∈ Rd.duties ((p : Thread nD τ), .dma sR) 0)
    (hk₁ : Rd.amount ((c : Thread nD τ), .dma sS) 0 0 = N) (hk₂ : Rd.amount ((p : Thread nD τ), .dma sR) 0 0 = N)
    {O₀ : CellTallies nD τ sig Unit} (O : CellTallies nD τ sig Unit) (hO : O₀ = O + tallyAt ((p : Thread nD τ), .dma sR) () N) {W : Waits sig Unit}
    (hpay₁ : owns (c : Thread nD τ) src q X ⊢ Rd.payload ((c : Thread nD τ), .dma sS) 0 0)
    (hpay₂ : owns (p : Thread nD τ) dst fullShare X ⊢ Rd.payload ((p : Thread nD τ), .dma sR) 0 0) (Q : PUnit → sProp 𝕄) :
    iprop(cellInv ER Rd κ₁ ((c : Thread nD τ), .dma sS) ∗ cellInv ER Rd κ₂ ((p : Thread nD τ), .dma sR)
        ∗ owns (c : Thread nD τ) src q X ∗ owns (p : Thread nD τ) dst fullShare Y ∗ owes (c : Thread nD τ) O₀ W
        ∗ dutyTok ER ((c : Thread nD τ), .dma sS) 0 0 ∗ reached ER ((c : Thread nD τ), .dma sS) 0
        ∗ dutyTok ER ((p : Thread nD τ), .dma sR) 0 0 ∗ reached ER ((p : Thread nD τ), .dma sR) 0)
      ⊢ iprop(((cred (tallyAt ((c : Thread nD τ), .dma sS) () N) ∗ owes (c : Thread nD τ) O W) -∗ WP c (k ⟨⟩) Q)
          -∗ WP c (.op (.enqueueDma src (.remote (p : Thread nD τ) dst (.dma sS) hsc) (.dma sR) hsrc hdst hsem) k) Q) := by
  iintro ⟨#Hi₁, #Hi₂, Hs, Hd, HO, Ht₁, Hr₁, Ht₂, Hr₂⟩ Hk
  ihave Hs' := (show owns (c : Thread nD τ) src q X ⊢ iprop(∃ f, ⌜src.view.read (Elt F) f = X⌝ ∗ src.view.loc (c : Thread nD τ) ↦[src.view.set]{q} f) from .rfl) $$ Hs
  icases Hs' with ⟨%fs, %hfs, Hs⟩
  ihave Hd' := (show owns (p : Thread nD τ) dst fullShare Y ⊢ iprop(∃ f, ⌜dst.view.read (Elt F) f = Y⌝ ∗ dst.view.loc (p : Thread nD τ) ↦[dst.view.set]{fullShare} f) from .rfl) $$ Hd
  icases Hd' with ⟨%fd, -, Hd⟩
  iapply (Rounds.wp_send_pointsTo 𝒱₀ ER Rd (c : Thread nD τ) none (c' := (p : Thread nD τ)) (src := src) (dst := dst)
      (sS := .dma sS) (sem := .dma sR) (q := q) (fs := fs) (κ₁ := κ₁) (κ₂ := κ₂) (r₁ := 0) (r₂ := 0) (d₁ := 0) (d₂ := 0) (fd := fd)
      hd₁ hd₂ () () N hN hk₁ hk₂ O hO (W := W)
      (by rw [← hfs] at hpay₁; exact (owns_intro (c : Thread nD τ) src q fs).trans hpay₁)
      (by rw [← hfs] at hpay₂; exact (owns_landed fs fd).trans hpay₂)) $$ [Hs Hd HO Ht₁ Hr₁ Ht₂ Hr₂]
  · isplitr; · iexact Hi₁
    isplitr; · iexact Hi₂
    isplitl [Hs]; · iexact Hs
    isplitl [Hd]; · iexact Hd
    isplitl [HO]; · iexact HO
    isplitl [Ht₁]; · iexact Ht₁
    isplitl [Hr₁]; · iexact Hr₁
    isplitl [Ht₂] <;> iassumption
  iexact Hk

/-- A copy to device `p` that pays the other's semaphore with the destination and the source, its own with nothing. -/
theorem send_owns_away [hRd : ∀ g r d, BI.Storable (upEmb : UEmb _ 𝕄) (Rd.payload g r d)] (p : Dev nD) {src dst : Memref sig .tc .vmem s e} {hsc : dst.view.ref.isScScratch = false} {sS sR : DmaSem sig}
    {hsrc : src.view.WordExact} {hdst : dst.view.WordExact} {hsem : DmaTarget.Typed .vmem (.dma sR) (.remote (p : Thread nD τ) dst (.dma sS) hsc)}
    {k : PUnit → TProg F} (X Y : s.Idx → Elt F e) (κ₁ κ₂ : ℕ) (N : ℕ) (hN : dst.view.amount (.dma sR) = N)
    (hd₁ : 0 ∈ Rd.duties ((c : Thread nD τ), .dma sS) 0) (hd₂ : 0 ∈ Rd.duties ((p : Thread nD τ), .dma sR) 0)
    (hk₁ : Rd.amount ((c : Thread nD τ), .dma sS) 0 0 = N) (hk₂ : Rd.amount ((p : Thread nD τ), .dma sR) 0 0 = N)
    {O₀ : CellTallies nD τ sig Unit} (O : CellTallies nD τ sig Unit) (hO : O₀ = O + tallyAt ((p : Thread nD τ), .dma sR) () N) {W : Waits sig Unit}
    (hpay₁ : (emp : sProp 𝕄) ⊢ Rd.payload ((c : Thread nD τ), .dma sS) 0 0)
    (hpay₂ : iprop(owns (p : Thread nD τ) dst fullShare X ∗ owns (c : Thread nD τ) src q X) ⊢ Rd.payload ((p : Thread nD τ), .dma sR) 0 0) (Q : PUnit → sProp 𝕄) :
    iprop(cellInv ER Rd κ₁ ((c : Thread nD τ), .dma sS) ∗ cellInv ER Rd κ₂ ((p : Thread nD τ), .dma sR)
        ∗ owns (c : Thread nD τ) src q X ∗ owns (p : Thread nD τ) dst fullShare Y ∗ owes (c : Thread nD τ) O₀ W
        ∗ dutyTok ER ((c : Thread nD τ), .dma sS) 0 0 ∗ reached ER ((c : Thread nD τ), .dma sS) 0
        ∗ dutyTok ER ((p : Thread nD τ), .dma sR) 0 0 ∗ reached ER ((p : Thread nD τ), .dma sR) 0)
      ⊢ iprop(((cred (tallyAt ((c : Thread nD τ), .dma sS) () N) ∗ owes (c : Thread nD τ) O W) -∗ WP c (k ⟨⟩) Q)
          -∗ WP c (.op (.enqueueDma src (.remote (p : Thread nD τ) dst (.dma sS) hsc) (.dma sR) hsrc hdst hsem) k) Q) := by
  iintro ⟨#Hi₁, #Hi₂, Hs, Hd, HO, Ht₁, Hr₁, Ht₂, Hr₂⟩ Hk
  ihave Hs' := (show owns (c : Thread nD τ) src q X ⊢ iprop(∃ f, ⌜src.view.read (Elt F) f = X⌝ ∗ src.view.loc (c : Thread nD τ) ↦[src.view.set]{q} f) from .rfl) $$ Hs
  icases Hs' with ⟨%fs, %hfs, Hs⟩
  ihave Hd' := (show owns (p : Thread nD τ) dst fullShare Y ⊢ iprop(∃ f, ⌜dst.view.read (Elt F) f = Y⌝ ∗ dst.view.loc (p : Thread nD τ) ↦[dst.view.set]{fullShare} f) from .rfl) $$ Hd
  icases Hd' with ⟨%fd, -, Hd⟩
  iapply (Rounds.wp_send_landing_pointsTo 𝒱₀ ER Rd (c : Thread nD τ) none (c' := (p : Thread nD τ)) (src := src) (dst := dst)
      (sS := .dma sS) (sem := .dma sR) (q := q) (fs := fs) (κ₁ := κ₁) (κ₂ := κ₂) (r₁ := 0) (r₂ := 0) (d₁ := 0) (d₂ := 0) (fd := fd)
      hd₁ hd₂ () () N hN hk₁ hk₂ O hO (W := W) hpay₁
      (by rw [← hfs] at hpay₂; exact (Idealize.SL.BI.sep_mono (owns_landed fs fd) (owns_intro (c : Thread nD τ) src q fs)).trans hpay₂)) $$ [Hs Hd HO Ht₁ Hr₁ Ht₂ Hr₂]
  · isplitr; · iexact Hi₁
    isplitr; · iexact Hi₂
    isplitl [Hs]; · iexact Hs
    isplitl [Hd]; · iexact Hd
    isplitl [HO]; · iexact HO
    isplitl [Ht₁]; · iexact Ht₁
    isplitl [Hr₁]; · iexact Hr₁
    isplitl [Ht₂] <;> iassumption
  iexact Hk

end Send

end Cert.KernelIdeal.Hand

end
-- ==== Proof.Proto.lean ====
/- The protocol of the three all-reduce calls. In call number `k` every device has seven partners; partner `i` of device `c` is the device
   whose number differs from `c`'s in the bits of `i + 1`, and `c` is partner `i` of it.

   * The barrier cell of `c` gets one unit from every partner. With it partner `i` hands over its slot `i` of the landing buffer and that
     its two receiving cells for `c` are open.
   * The reduce-scatter copy of `c` to partner `i` writes the partner's rows of `c`'s rounded operand into that slot. The partner finds the
     slot, at those contents, and, in the first two calls, those rows of `c`'s buffer themselves, to be the destination of the copy back.
     In the last call `c` gets them back on its own sending cell.
   * The all-gather copy of `c` to partner `i`, in the first two calls, writes `c`'s rows of the sum into `c`'s rows of the partner's buffer;
     the source comes back on the sending cell. -/
module

public import proofs.«01_k».proof.Proof.Own

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Partners -/

/-- Partner `i` of device `c`. -/
def peer (i : Fin 7) (c : Dev nD) : Dev nD := ⟨Nat.xor c.val (i.val + 1), by revert c i; decide⟩
theorem peer_peer (i : Fin 7) (c : Dev nD) : peer i (peer i c) = c := by revert i c; decide
theorem pSig_eq (c : Dev nD) (i : Fin 7) : pSig c i = peer i c := by revert i c; decide
theorem pRs_eq (c : Dev nD) (i : Fin 7) : pRs c i = peer i c := by revert i c; decide
theorem pAg_eq (c : Dev nD) (i : Fin 7) : pAg c i = peer i c := by revert i c; decide
theorem offP_eq (c : Dev nD) (i : Fin 7) : offP c i = ![8 * (peer i c).val, 0] := by revert i c; decide
theorem off2_eq (c : Dev nD) : k1_off2 c = ![8 * c.val, 0] := by revert c; decide
theorem off3_eq (c : Dev nD) : k1_off3 c = ![8 * c.val, 0] := by revert c; decide

/-- The devices are one device and its seven partners. -/
theorem bigSep_dev (c : Dev nD) (Φ : Dev nD → sProp 𝕄) :
    bigSep Finset.univ Φ = iprop(Φ c ∗ bigSep Finset.univ fun i => Φ (peer i c)) := by
  have hu : (Finset.univ : Finset (Dev nD)) = insert c (Finset.univ.map ⟨fun i => peer i c, by revert c; decide⟩) := by revert c; decide
  rw [hu, bigSep_insert (by revert c; decide), bigSep_map]
  rfl

/-! ## Buffers, semaphores and cells by the call's number -/

/-- The rounded operand's buffer, the landing buffer, the two arrays of semaphores and the barrier semaphore of call `k`. -/
abbrev xM : Fin 3 → Memref sig .tc .vmem S64x2048 .bf16
  | 0 => Memref.whole cc1_scratch0
  | 1 => Memref.whole cc3_scratch0
  | 2 => Memref.whole cc5_scratch0
abbrev rM : Fin 3 → Memref sig .tc .vmem S7x8x2048 .bf16
  | 0 => Memref.whole cc1_scratch1
  | 1 => Memref.whole cc3_scratch1
  | 2 => Memref.whole cc5_scratch1
abbrev sD : Fin 3 → DmaSems sig S14
  | 0 => cc1_scratch2
  | 1 => cc3_scratch2
  | 2 => cc5_scratch2
abbrev rD : Fin 3 → DmaSems sig S14
  | 0 => cc1_scratch3
  | 1 => cc3_scratch3
  | 2 => cc5_scratch3
abbrev bS : Fin 3 → Sem sig
  | 0 => sig.barrier 0 rfl
  | 1 => sig.barrier 1 rfl
  | 2 => sig.barrier 2 rfl

theorem xM_whole (k : Fin 3) : (xM k).IsWhole := by
  match k with
  | 0 => exact Memref.isWhole_whole _
  | 1 => exact Memref.isWhole_whole _
  | 2 => exact Memref.isWhole_whole _
theorem rM_whole (k : Fin 3) : (rM k).IsWhole := by
  match k with
  | 0 => exact Memref.isWhole_whole _
  | 1 => exact Memref.isWhole_whole _
  | 2 => exact Memref.isWhole_whole _

/-- The four semaphores of partner `i`: sending and receiving of the reduce-scatter copy, of the all-gather copy. -/
def dS (k : Fin 3) (i : Fin 7) : Fin 4 → DmaSem sig
  | 0 => semAt (sD k) (lo i)
  | 1 => semAt (rD k) (lo i)
  | 2 => semAt (sD k) (hi i)
  | 3 => semAt (rD k) (hi i)

/-- What a semaphore is for. -/
inductive Role where
  | bar (k : Fin 3)
  | dma (k : Fin 3) (i : Fin 7) (a : Fin 4)
  | other
deriving DecidableEq

/-- The role by the semaphore's number. -/
def dmaRole (n : ℕ) : Role :=
  if n < 8 then .other
  else if h : (n - 8) / 36 < 3 ∧ (n - 8) % 36 < 28 then
    .dma ⟨(n - 8) / 36, h.1⟩ ⟨(n - 8) % 36 % 7, Nat.mod_lt _ (by decide)⟩ ((![0, 2, 1, 3] : Fin 4 → Fin 4) ⟨(n - 8) % 36 / 7, by omega⟩)
  else .other
def role : SemLoc sig → Role
  | .reg s => if h : s.val < 3 then .bar ⟨s.val, h⟩ else .other
  | .dma s => dmaRole s.val

theorem role_bar (k : Fin 3) : role (.reg (bS k)) = .bar k := by revert k; decide
theorem role_dma (k : Fin 3) (i : Fin 7) (a : Fin 4) : role (.dma (dS k i a)) = .dma k i a := by revert k i a; decide

/-- The cells of device `c`. -/
abbrev bCell (k : Fin 3) (c : Dev nD) : GSem nD τ sig := ((c : Thread nD τ), .reg (bS k))
abbrev dCell (k : Fin 3) (i : Fin 7) (a : Fin 4) (c : Dev nD) : GSem nD τ sig := ((c : Thread nD τ), .dma (dS k i a))

/-! ## Rows, slots, shares -/

theorem inb8 (d : Dev nD) : ∀ a, (![8 * d.val, 0] : Fin 2 → Nat) a + S8x2048.size a ≤ S64x2048.size a := by revert d; decide
/-- The eight rows of device `d`. -/
abbrev rRow (d : Dev nD) : Rect S64x2048 := Rect.unit (s := S64x2048) ![8 * d.val, 0] S8x2048.size (inb8 d)
abbrev rowM (k : Fin 3) (d : Dev nD) : Memref sig .tc .vmem S8x2048 .bf16 := rowsOf (xM k) ![8 * d.val, 0] (inb8 d)
abbrev slotM (k : Fin 3) (i : Fin 7) : Memref sig .tc .vmem S8x2048 .bf16 := slotOf (rM k) i
/-- A function on the 64 rows, on those of device `d`. -/
abbrev rowv {α : Type} (X : S64x2048.Idx → α) (d : Dev nD) : S8x2048.Idx → α := fun j => X ((rRow d).emb j)

/-- What is left of the full share after `n` parts are taken, and part number `n`. -/
def qr : ℕ → PosShare TreeShare
  | 0 => fullShare
  | n + 1 => (qr n).right
def qs (i : Fin 7) : PosShare TreeShare := if i.val = 6 then qr 6 else (qr i.val).left

/-- The bytes of one copy, as its semaphores count them. -/
def N : ℕ := (slotM 0 0).view.dmaCredit
theorem N_pos : 0 < N := View.dmaCredit_pos _ (by decide)
theorem N_slot (k : Fin 3) (i : Fin 7) : (slotM k i).view.dmaCredit = N := by
  match k with
  | 0 => rfl
  | 1 => rfl
  | 2 => rfl
theorem N_row (k : Fin 3) (d : Dev nD) : (rowM k d).view.dmaCredit = N := by
  match k with
  | 0 => rfl
  | 1 => rfl
  | 2 => rfl

/-! ## The schedule -/

section Schedule

/- The rounded operand of call `k` on each device, and what the all-gather of call `k` leaves on every device. -/
variable (xv : Fin 3 → Dev nD → S64x2048.Idx → Elt F .bf16) (gv : Fin 3 → S64x2048.Idx → Elt F .bf16)

/-- What partner `i` hands over with its unit on `c`'s barrier cell. -/
def barPay (k : Fin 3) (i : Fin 7) (c : Dev nD) : sProp 𝕄 :=
  iprop((∃ Y, owns (peer i c : Thread nD τ) (slotM k i) fullShare Y) ∗ reached ER (dCell k i 1 (peer i c)) 0 ∗ reached ER (dCell k i 3 (peer i c)) 0)

/-- What comes with a copy's bytes on the four cells of partner `i`. -/
def dmaPay (k : Fin 3) (i : Fin 7) (c : Dev nD) : Fin 4 → sProp 𝕄
  | 0 => if k = 2 then owns (c : Thread nD τ) (rowM k (peer i c)) fullShare (rowv (xv k c) (peer i c)) else iprop(emp)
  | 1 => if k = 2 then owns (c : Thread nD τ) (slotM k i) fullShare (rowv (xv k (peer i c)) c)
      else iprop(owns (c : Thread nD τ) (slotM k i) fullShare (rowv (xv k (peer i c)) c) ∗ ∃ Y, owns (peer i c : Thread nD τ) (rowM k c) fullShare Y)
  | 2 => owns (c : Thread nD τ) (rowM k c) (qs i) (rowv (gv k) c)
  | 3 => owns (c : Thread nD τ) (rowM k (peer i c)) fullShare (rowv (gv k) (peer i c))

/-- The last call has no all-gather copies. -/
abbrev Used (k : Fin 3) (a : Fin 4) : Prop := k ≠ 2 ∨ a = 0 ∨ a = 1

/-- One round: seven duties of one unit on a barrier cell, one duty of a copy's bytes on every cell a copy raises. -/
def talkRd : Rounds.Schedule (GSem nD τ sig) (Fin 7) 𝕄 where
  duties g r := if r = 0 then (match role g.2 with
    | .bar _ => Finset.univ
    | .dma k _ a => if Used k a then {0} else ∅
    | .other => ∅) else ∅
  unitless _ := False
  amount g _ _ := match role g.2 with
    | .bar _ => 1
    | _ => N
  payload g _ d := match role g.2 with
    | .bar k => barPay k d g.1.1
    | .dma k i a => dmaPay xv gv k i g.1.1 a
    | .other => iprop(emp)
  amount_pos g _ _ _ := by
    split
    · exact Nat.one_pos
    · exact N_pos

instance barPay_storable (k : Fin 3) (i : Fin 7) (c : Dev nD) : BI.Storable (upEmb : UEmb _ 𝕄) (barPay k i c) := by
  unfold barPay; infer_instance
instance dmaPay_storable (k : Fin 3) (i : Fin 7) (c : Dev nD) (a : Fin 4) : BI.Storable (upEmb : UEmb _ 𝕄) (dmaPay xv gv k i c a) := by
  unfold dmaPay
  match a with
  | 0 => dsimp only; split <;> infer_instance
  | 1 => dsimp only; split <;> infer_instance
  | 2 => dsimp only; infer_instance
  | 3 => dsimp only; infer_instance
instance talkRd_storable (g : GSem nD τ sig) (r : ℕ) (d : Fin 7) : BI.Storable (upEmb : UEmb _ 𝕄) ((talkRd xv gv).payload g r d) := by
  show BI.Storable upEmb (match role g.2 with
    | .bar k => barPay k d g.1.1
    | .dma k i a => dmaPay xv gv k i g.1.1 a
    | .other => iprop(emp))
  split <;> infer_instance

theorem duties_bar (k : Fin 3) (c : Dev nD) : (talkRd xv gv).duties (bCell k c) 0 = Finset.univ := by
  dsimp only [talkRd]; rw [if_pos rfl, role_bar]
theorem duties_dma (k : Fin 3) (i : Fin 7) (a : Fin 4) (c : Dev nD) (h : Used k a) : (talkRd xv gv).duties (dCell k i a c) 0 = {0} := by
  dsimp only [talkRd]; rw [if_pos rfl, role_dma]; exact if_pos h
theorem duties_unused (k : Fin 3) (i : Fin 7) (a : Fin 4) (c : Dev nD) (h : ¬ Used k a) (r : ℕ) : (talkRd xv gv).duties (dCell k i a c) r = ∅ := by
  dsimp only [talkRd]; split
  · rw [role_dma]; exact if_neg h
  · rfl
theorem duties_later (g : GSem nD τ sig) : ∀ r, 1 ≤ r → (talkRd xv gv).duties g r = ∅ :=
  fun r hr => by dsimp only [talkRd]; exact if_neg (by omega)
theorem amount_bar (k : Fin 3) (c : Dev nD) (d : Fin 7) : (talkRd xv gv).amount (bCell k c) 0 d = 1 := by dsimp only [talkRd]; rw [role_bar]
theorem amount_dma (k : Fin 3) (i : Fin 7) (a : Fin 4) (c : Dev nD) (d : Fin 7) : (talkRd xv gv).amount (dCell k i a c) 0 d = N := by
  dsimp only [talkRd]; rw [role_dma]
theorem expect_bar (k : Fin 3) (c : Dev nD) : (talkRd xv gv).expect (bCell k c) 0 = 7 := by
  unfold Schedule.expect Schedule.amountOf; rw [duties_bar, Finset.sum_congr rfl fun d _ => amount_bar xv gv k c d]; rfl
theorem expect_dma (k : Fin 3) (i : Fin 7) (a : Fin 4) (c : Dev nD) (h : Used k a) : (talkRd xv gv).expect (dCell k i a c) 0 = N := by
  unfold Schedule.expect Schedule.amountOf; rw [duties_dma xv gv k i a c h, Finset.sum_singleton, amount_dma]
theorem payload_bar (k : Fin 3) (c : Dev nD) (d : Fin 7) : (talkRd xv gv).payload (bCell k c) 0 d = barPay k d c := by
  dsimp only [talkRd]; rw [role_bar]
theorem payload_dma (k : Fin 3) (i : Fin 7) (a : Fin 4) (c : Dev nD) (d : Fin 7) : (talkRd xv gv).payload (dCell k i a c) 0 d = dmaPay xv gv k i c a := by
  dsimp only [talkRd]; rw [role_dma]
theorem rest_bar (k : Fin 3) (c : Dev nD) :
    bigSep ((talkRd xv gv).duties (bCell k c) 0 \ ∅) (fun d => (talkRd xv gv).payload (bCell k c) 0 d) = bigSep Finset.univ fun i => barPay k i c := by
  rw [Finset.sdiff_empty, duties_bar]
  exact bigSep_congr fun d _ => payload_bar xv gv k c d
theorem rest_dma (k : Fin 3) (i : Fin 7) (a : Fin 4) (c : Dev nD) (h : Used k a) :
    bigSep ((talkRd xv gv).duties (dCell k i a c) 0 \ ∅) (fun d => (talkRd xv gv).payload (dCell k i a c) 0 d) = dmaPay xv gv k i c a := by
  rw [Finset.sdiff_empty, duties_dma xv gv k i a c h, bigSep_singleton, payload_dma]

end Schedule

/-! ## What a device owes, and the levels -/

/-- The sum of what is owed for the partners of a list. -/
def owe (f : Fin 7 → CellTallies nD τ sig Unit) (l : List (Fin 7)) : CellTallies nD τ sig Unit := l.foldr (fun i O => f i + O) 0

/-- Owed to partner `i`: its barrier unit, the bytes of the reduce-scatter copy, the bytes of the all-gather copy. -/
def barO (k : Fin 3) (c : Dev nD) (i : Fin 7) : CellTallies nD τ sig Unit := tallyAt (bCell k (peer i c)) () 1
def rsO (k : Fin 3) (c : Dev nD) (i : Fin 7) : CellTallies nD τ sig Unit := tallyAt (dCell k i 1 (peer i c)) () N
def agO (k : Fin 3) (c : Dev nD) (i : Fin 7) : CellTallies nD τ sig Unit := tallyAt (dCell k i 3 (peer i c)) () (if k = 2 then 0 else N)
/-- Owed in call `k`, and from call `k` on. -/
def callO (k : Fin 3) (c : Dev nD) : CellTallies nD τ sig Unit := owe (barO k c) all7 + (owe (rsO k c) all7 + owe (agO k c) all7)
def dueFrom (c : Dev nD) : ℕ → CellTallies nD τ sig Unit
  | 0 => callO 0 c + (callO 1 c + callO 2 c)
  | 1 => callO 1 c + callO 2 c
  | 2 => callO 2 c
  | _ => 0

def L (g : GSem nD τ sig) : Finset Unit := if g.1.2 = .tc then {()} else ∅
/-- Per call: the barrier cell, then the reduce-scatter's receiving cells, then the all-gather's; a later call's above an earlier's. -/
def lv (g : GSem nD τ sig) (_ : Unit) : ℕ := match role g.2 with
  | .bar k => 3 * k.val + 1
  | .dma k _ a => if a = 1 then 3 * k.val + 2 else if a = 3 then 3 * k.val + 3 else 0
  | .other => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (k : Fin 3) (c : Dev nD) (u : Unit) : lv (bCell k c) u = 3 * k.val + 1 := by dsimp only [lv]; rw [role_bar]
theorem lv_rs (k : Fin 3) (i : Fin 7) (c : Dev nD) (u : Unit) : lv (dCell k i 1 c) u = 3 * k.val + 2 := by dsimp only [lv]; rw [role_dma]; rfl
theorem lv_ag (k : Fin 3) (i : Fin 7) (c : Dev nD) (u : Unit) : lv (dCell k i 3 c) u = 3 * k.val + 3 := by dsimp only [lv]; rw [role_dma]; rfl
theorem lv_snd0 (k : Fin 3) (i : Fin 7) (c : Dev nD) (u : Unit) : lv (dCell k i 0 c) u = 0 := by dsimp only [lv]; rw [role_dma]; rfl
theorem lv_snd2 (k : Fin 3) (i : Fin 7) (c : Dev nD) (u : Unit) : lv (dCell k i 2 c) u = 0 := by dsimp only [lv]; rw [role_dma]; rfl

/-- Everything owed is owed to TensorCores' cells above level `n`. -/
def Above (n : ℕ) (O : CellTallies nD τ sig Unit) : Prop := ∀ g u, 0 < O g u → u ∈ L g ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := fun g u hg => by
  rcases Nat.eq_zero_or_pos (O g u) with h0 | h0
  · rcases Nat.eq_zero_or_pos (O' g u) with h1 | h1
    · have : (O + O') g u = O g u + O' g u := rfl
      rw [this, h0, h1] at hg; exact absurd hg (Nat.lt_irrefl 0)
    · exact h' g u h1
  · exact h g u h0
theorem Above.tally {n : ℕ} (c : Dev nD) (sm : SemLoc sig) (a : ℕ) (h : n < lv ((c : Thread nD τ), sm) ()) : Above n (tallyAt ((c : Thread nD τ), sm) () a) := fun g u hg => by
  rw [tallyAt_apply] at hg
  by_cases hh : g = ((c : Thread nD τ), sm) ∧ u = ()
  · rw [hh.1, L_tc]; exact ⟨Finset.mem_singleton_self _, h⟩
  · rw [if_neg hh] at hg; exact absurd hg (Nat.lt_irrefl 0)
theorem Above.owe {n : ℕ} {f : Fin 7 → CellTallies nD τ sig Unit} (h : ∀ i, Above n (f i)) : ∀ l, Above n (owe f l)
  | [] => Above.zero n
  | i :: l => (h i).add (Above.owe h l)
theorem above_rs {n : ℕ} (k : Fin 3) (c : Dev nD) (h : n < 3 * k.val + 2) (l) : Above n (owe (rsO k c) l) :=
  Above.owe (fun i => Above.tally _ _ _ (by rw [lv_rs]; exact h)) l
theorem above_ag {n : ℕ} (k : Fin 3) (c : Dev nD) (h : n < 3 * k.val + 3) (l) : Above n (owe (agO k c) l) :=
  Above.owe (fun i => Above.tally _ _ _ (by rw [lv_ag]; exact h)) l
theorem above_call {n : ℕ} (k : Fin 3) (c : Dev nD) (h : n < 3 * k.val + 1) : Above n (callO k c) :=
  (Above.owe (fun i => Above.tally _ _ _ (by rw [lv_bar]; exact h)) _).add ((above_rs k c (by omega) _).add (above_ag k c (by omega) _))

/-- A wait on a cell at level `n` or below is allowed to one who owes only above. -/
theorem mayWait {n : ℕ} {O : CellTallies nD τ sig Unit} (h : Above n O) (c : Dev nD) (sm : SemLoc sig) (hsm : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1) (fun p hp => by rw [Finset.mem_singleton.mp hp]; exact hsm) (fun g u hg => (h g u hg).2)

end Cert.KernelIdeal.Hand

end
-- ==== Proof.Phase.lean ====
/- The steps of an all-reduce call, each proved for one partner and then for a list of partners. -/
module

public import proofs.«01_k».proof.Proof.Proto

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

theorem bL_cons {I : Type} (i : I) (l : List I) (Φ : I → sProp 𝕄) : bigSepL (i :: l) Φ = iprop(Φ i ∗ bigSepL l Φ) := bigSepL_cons i l Φ

variable (xv : Fin 3 → Dev nD → S64x2048.Idx → Elt F .bf16) (gv : Fin 3 → S64x2048.Idx → Elt F .bf16)

/-- What everybody knows: the levels, every cell's invariant at its name, and that round 0 of every barrier cell is reached. -/
def Ctx (K : GSem nD τ sig → ℕ) : sProp 𝕄 :=
  iprop(levAts L lv
    ∗ (bigSep Finset.univ fun x : Fin 3 × Dev nD => iprop(cellInv ER (talkRd xv gv) (K (bCell x.1 x.2)) (bCell x.1 x.2) ∗ reached ER (bCell x.1 x.2) 0))
    ∗ bigSep Finset.univ fun x : (Fin 3 × Fin 7 × Fin 4) × Dev nD => cellInv ER (talkRd xv gv) (K (dCell x.1.1 x.1.2.1 x.1.2.2 x.2)) (dCell x.1.1 x.1.2.1 x.1.2.2 x.2))

instance Ctx_persistent (K : GSem nD τ sig → ℕ) : BI.Persistent (Ctx xv gv K) := by unfold Ctx; infer_instance

variable {xv gv} {K : GSem nD τ sig → ℕ}

theorem ctx_lev : Ctx xv gv K ⊢ levAts L lv := by unfold Ctx; exact sep_elim_left
theorem ctx_bar (k : Fin 3) (c : Dev nD) : Ctx xv gv K ⊢ iprop(cellInv ER (talkRd xv gv) (K (bCell k c)) (bCell k c) ∗ reached ER (bCell k c) 0) := by
  unfold Ctx
  exact sep_elim_right.trans (sep_elim_left.trans (bigSep_elim (i := (k, c)) (Finset.mem_univ _)))
theorem ctx_dma (k : Fin 3) (i : Fin 7) (a : Fin 4) (c : Dev nD) : Ctx xv gv K ⊢ cellInv ER (talkRd xv gv) (K (dCell k i a c)) (dCell k i a c) := by
  unfold Ctx
  exact sep_elim_right.trans (sep_elim_right.trans (bigSep_elim (i := ((k, i, a), c)) (Finset.mem_univ _)))

/-- What `c` owes, whatever it has waited for. -/
def owesE (c : Dev nD) (O : CellTallies nD τ sig Unit) : sProp 𝕄 := iprop(∃ W, owes (c : Thread nD τ) O W)

variable (c : Dev nD) (k : Fin 3) (O : CellTallies nD τ sig Unit) (Q : PUnit → sProp (MT nD τ sig Unit (Elt F) ℕ UU ℕ)) (p : TProg F)

theorem owe_cons (f : Fin 7 → CellTallies nD τ sig Unit) (i : Fin 7) (l : List (Fin 7)) : owe f (i :: l) + O = (owe f l + O) + f i := by
  show f i + owe f l + O = _
  rw [add_comm (f i), add_assoc, add_assoc, add_comm (f i)]

/-! ## Signals -/

/-- What is given for the signal to partner `i`. -/
def sigIn (i : Fin 7) : sProp 𝕄 :=
  iprop(dutyTok ER (bCell k (peer i c)) 0 i ∗ (∃ Y, owns (c : Thread nD τ) (slotM k i) fullShare Y) ∗ reached ER (dCell k i 1 c) 0 ∗ reached ER (dCell k i 3 c) 0)

theorem sig_step (i : Fin 7) (d : Dev nD) (hd : d = peer i c) :
    iprop(Ctx xv gv K ∗ sigIn c k i ∗ owesE c (O + barO k c i))
      ⊢ iprop((owesE c O -∗ WP c p Q) -∗ WP c (.op (.semSignal (d : Thread nD τ) (bS k) 1) fun _ => p) Q) := by
  subst hd
  unfold sigIn owesE
  iintro ⟨#HC, ⟨Ht, Hs, #Hr1, #Hr3⟩, %W, HO⟩ Hk
  ihave #Hb := (ctx_bar k (peer i c)) $$ HC
  icases Hb with ⟨#Hi, #Hr⟩
  iapply (Rounds.wp_signal 𝒱₀ ER (talkRd xv gv) (c : Thread nD τ) none (dst := (peer i c : Thread nD τ)) (sem := bS k) (r := 0) (d := i) (κ := K (bCell k (peer i c)))
      (by rw [duties_bar]; exact Finset.mem_univ _) (amount_bar xv gv k (peer i c) i) () O rfl) $$ [HO Ht Hs]
  · isplitr; · iexact Hi
    isplitl [HO]; · iexact HO
    isplitl [Ht]; · iexact Ht
    isplitl [Hs]
    · rw [payload_bar]; unfold barPay; rw [peer_peer]
      isplitl [Hs]; · iexact Hs
      isplitr; · iexact Hr1
      iexact Hr3
    · iexact Hr
  iintro HO
  iapply Hk
  iexists W
  iexact HO

theorem sig_phase : ∀ l : List (Fin 7),
    iprop(Ctx xv gv K ∗ bigSepL l (sigIn c k) ∗ owesE c (owe (barO k c) l + O))
      ⊢ iprop((owesE c O -∗ WP c p Q) -∗ WP c (runL l (barSignal (bS k) (pSig c)) p) Q)
  | [] => by
    iintro ⟨-, -, HO⟩ Hk
    iapply Hk
    rw [show owe (barO k c) [] + O = O from zero_add O]
    iexact HO
  | i :: l => by
    rw [bL_cons, owe_cons]
    iintro ⟨#HC, ⟨Hi, Hl⟩, HO⟩ Hk
    iapply (sig_step c k (owe (barO k c) l + O) Q (runL l (barSignal (bS k) (pSig c)) p) i (pSig c i) (pSig_eq c i)) $$ [Hi HO]
    · isplitr; · iexact HC
      isplitl [Hi] <;> iassumption
    iintro HO
    iapply (sig_phase l) $$ [Hl HO]
    · isplitr; · iexact HC
      isplitl [Hl] <;> iassumption
    iexact Hk

/-- The wait for the seven units: every partner's slot for `c`. -/
theorem bar_wait (hA : Above (3 * k.val + 1) O) :
    iprop(Ctx xv gv K ∗ cred (tallyAt (bCell k c) () 7) ∗ atPos ER (bCell k c) 0 ∅ 0 ∗ owesE c O)
      ⊢ iprop(((owesE c O ∗ atPos ER (bCell k c) (0 + 1) ∅ 0 ∗ bigSep Finset.univ fun i => barPay k i c) -∗ WP c p Q)
          -∗ WP c (.op (.semWait (bS k) 7) fun _ => p) Q) := by
  unfold owesE
  iintro ⟨#HC, Hc, Ha, %W, HO⟩ Hk
  ihave #Hb := (ctx_bar k c) $$ HC
  icases Hb with ⟨#Hi, -⟩
  ihave #Hl := ctx_lev $$ HC
  iapply (Rounds.wp_wait_rest_token 𝒱₀ ER (talkRd xv gv) (c : Thread nD τ) none (κ := K (bCell k c))
      (wpE_semWait_eq 𝒱₀ (c : Thread nD τ) none Set.univ) (Set.mem_univ _) () (O := O) (W := W) (R := 0) (m := 0) (T := ∅)
      ((Nat.zero_add 7).trans (expect_bar xv gv k c).symm)) $$ [Hc HO Ha]
  · isplitr; · iexact Hi
    isplitl [Hc]; · iexact Hc
    isplitl [HO]; · iexact HO
    isplitr; · iapply (mayWait hA c (.reg (bS k)) (le_of_eq (lv_bar k c ()))); iexact Hl
    iexact Ha
  iintro ⟨HO, Ha, -, Hpay⟩
  ihave Hp := (Entails.of_eq (rest_bar xv gv k c)) $$ Hpay
  iapply Hk
  isplitl [HO]; · iexists _; iexact HO
  isplitl [Ha] <;> iassumption

/-! ## A wait on a copy's cell -/

theorem dma_wait (i : Fin 7) (a : Fin 4) (hU : Used k a) {n : ℕ} (hA : Above n O) (hn : lv (dCell k i a c) () ≤ n)
    {s₁ s₂ : Shape} {e₁ e₂ : EltTy} (src : Memref sig .tc .vmem s₁ e₁) (dst : Memref sig .tc .vmem s₂ e₂) (hs) (hd) (hN : dst.view.dmaCredit = N) :
    iprop(Ctx xv gv K ∗ cred (tallyAt (dCell k i a c) () N) ∗ atPos ER (dCell k i a c) 0 ∅ 0 ∗ owesE c O)
      ⊢ iprop(((owesE c O ∗ atPos ER (dCell k i a c) (0 + 1) ∅ 0 ∗ dmaPay xv gv k i c a) -∗ WP c p Q)
          -∗ WP c (.op (.waitDma2 (dS k i a) src dst hs hd) fun _ => p) Q) := by
  unfold owesE
  iintro ⟨#HC, Hc, Ha, %W, HO⟩ Hk
  ihave #Hi := (ctx_dma k i a c) $$ HC
  ihave #Hl := ctx_lev $$ HC
  rw [← hN]
  iapply (Rounds.wp_wait_rest_token 𝒱₀ ER (talkRd xv gv) (c : Thread nD τ) none (κ := K (dCell k i a c))
      (wpE_waitDma2_eq (src := src) (dst := dst) 𝒱₀ (c : Thread nD τ) none Set.univ) (Set.mem_univ _) () (O := O) (W := W) (R := 0) (m := 0) (T := ∅)
      ((Nat.zero_add _).trans (hN.trans (expect_dma xv gv k i a c hU).symm))) $$ [Hc HO Ha]
  · isplitr; · iexact Hi
    isplitl [Hc]; · iexact Hc
    isplitl [HO]; · iexact HO
    isplitr; · iapply (mayWait hA c (.dma (dS k i a)) hn); iexact Hl
    iexact Ha
  iintro ⟨HO, Ha, -, Hpay⟩
  ihave Hp := (Entails.of_eq (rest_dma xv gv k i a c hU)) $$ Hpay
  iapply Hk
  isplitl [HO]; · iexists _; iexact HO
  isplitl [Ha] <;> iassumption

/-- What is given for, and what comes of, the two waits on cells `a` and `b` of partner `i`. -/
def waitIn (a b : Fin 4) (i : Fin 7) : sProp 𝕄 :=
  iprop((cred (tallyAt (dCell k i a c) () N) ∗ atPos ER (dCell k i a c) 0 ∅ 0) ∗ cred (tallyAt (dCell k i b c) () N) ∗ atPos ER (dCell k i b c) 0 ∅ 0)
def waitOut (xv : Fin 3 → Dev nD → S64x2048.Idx → Elt F .bf16) (gv : Fin 3 → S64x2048.Idx → Elt F .bf16) (a b : Fin 4) (i : Fin 7) : sProp 𝕄 :=
  iprop((atPos ER (dCell k i a c) (0 + 1) ∅ 0 ∗ atPos ER (dCell k i b c) (0 + 1) ∅ 0) ∗ dmaPay xv gv k i c a ∗ dmaPay xv gv k i c b)

theorem wait_phase (a b : Fin 4) (hUa : Used k a) (hUb : Used k b) {n : ℕ} (hA : Above n O) (hna : ∀ i, lv (dCell k i a c) () ≤ n) (hnb : ∀ i, lv (dCell k i b c) () ≤ n)
    (f g : Fin 7 → TOp F) {s₁ s₂ : Shape} {e₁ e₂ : EltTy} (src : Fin 7 → Memref sig .tc .vmem s₁ e₁) (dst : Fin 7 → Memref sig .tc .vmem s₂ e₂)
    {s₁' s₂' : Shape} {e₁' e₂' : EltTy} (src' : Fin 7 → Memref sig .tc .vmem s₁' e₁') (dst' : Fin 7 → Memref sig .tc .vmem s₂' e₂') (hs : ∀ i, (src i).view.WordExact) (hd : ∀ i, (dst i).view.WordExact)
    (hs' : ∀ i, (src' i).view.WordExact) (hd' : ∀ i, (dst' i).view.WordExact)
    (hf : ∀ i, f i = .waitDma2 (dS k i a) (src i) (dst i) (hs i) (hd i)) (hg : ∀ i, g i = .waitDma2 (dS k i b) (src' i) (dst' i) (hs' i) (hd' i))
    (hN : ∀ i, (dst i).view.dmaCredit = N) (hN' : ∀ i, (dst' i).view.dmaCredit = N) : ∀ (l : List (Fin 7)) (Q : PUnit → sProp 𝕄),
    iprop(Ctx xv gv K ∗ bigSepL l (waitIn c k a b) ∗ owesE c O)
      ⊢ iprop(((owesE c O ∗ bigSepL l (waitOut c k xv gv a b)) -∗ WP c p Q) -∗ WP c (runL2 l f g p) Q)
  | [], Q => by
    iintro ⟨-, Hl, HO⟩ Hk
    iapply Hk
    isplitl [HO]; · iexact HO
    iexact Hl
  | i :: l, Q => by
    rw [bL_cons, bL_cons]
    show _ ⊢ iprop(_ -∗ WP c (.op (f i) fun _ => .op (g i) fun _ => runL2 l f g p) Q)
    rw [hf i, hg i]
    unfold waitIn
    iintro ⟨#HC, ⟨⟨⟨Hc, Ha⟩, Hc', Ha'⟩, Hl⟩, HO⟩ Hk
    iapply (dma_wait c k O Q (.op (.waitDma2 (dS k i b) (src' i) (dst' i) (hs' i) (hd' i)) fun _ => runL2 l f g p) i a hUa hA (hna i) (src i) (dst i) (hs i) (hd i) (hN i)) $$ [Hc Ha HO]
    · isplitr; · iexact HC
      isplitl [Hc]; · iexact Hc
      isplitl [Ha] <;> iassumption
    iintro ⟨HO, Ha, Hp⟩
    iapply (dma_wait c k O Q (runL2 l f g p) i b hUb hA (hnb i) (src' i) (dst' i) (hs' i) (hd' i) (hN' i)) $$ [Hc' Ha' HO]
    · isplitr; · iexact HC
      isplitl [Hc']; · iexact Hc'
      isplitl [Ha'] <;> iassumption
    iintro ⟨HO, Ha', Hp'⟩
    iapply (wait_phase a b hUa hUb hA hna hnb f g src dst src' dst' hs hd hs' hd' hf hg hN hN' l Q) $$ [Hl HO]
    · isplitr; · iexact HC
      isplitl [Hl]; · iexact Hl
      iexact HO
    iintro ⟨HO, Hl⟩
    iapply Hk
    isplitl [HO]; · iexact HO
    unfold waitOut
    isplitr [Hl]
    · isplitl [Ha Ha']
      · isplitl [Ha] <;> iassumption
      · isplitl [Hp] <;> iassumption
    · iexact Hl

/-! ## The reduce-scatter copies -/

/-- What is given for the reduce-scatter copy to partner `i`, and what it leaves. -/
def rsIn (xv : Fin 3 → Dev nD → S64x2048.Idx → Elt F .bf16) (i : Fin 7) : sProp 𝕄 :=
  iprop(barPay k i c ∗ owns (c : Thread nD τ) (rowM k (peer i c)) fullShare (rowv (xv k c) (peer i c))
    ∗ dutyTok ER (dCell k i 0 c) 0 0 ∗ dutyTok ER (dCell k i 1 (peer i c)) 0 0 ∗ reached ER (dCell k i 0 c) 0)
def rsOut (i : Fin 7) : sProp 𝕄 := iprop(cred (tallyAt (dCell k i 0 c) () N) ∗ reached ER (dCell k i 3 (peer i c)) 0)

theorem used01 (k : Fin 3) : Used k 0 ∧ Used k 1 := ⟨.inr (.inl rfl), .inr (.inr rfl)⟩

theorem rs_step (i : Fin 7) (d : Dev nD) (hd : d = peer i c) (off : Fin 2 → ℕ) (ho : off = ![8 * (peer i c).val, 0]) (h) (hw) (hw') (ht) :
    iprop(Ctx xv gv K ∗ rsIn c k xv i ∗ owesE c (O + rsO k c i))
      ⊢ iprop(((rsOut c k i ∗ owesE c O) -∗ WP c p Q)
          -∗ WP c (.op (.enqueueDma (rowsOf (xM k) off h) (.remote (d : Thread nD τ) (slotM k i) (.dma (dS k i 0))) (.dma (dS k i 1)) hw hw' ht) fun _ => p) Q) := by
  subst hd ho
  unfold rsIn rsOut owesE barPay
  iintro ⟨#HC, ⟨⟨⟨%Y, Hs⟩, #Hr1, #Hr3⟩, Hx, Ht, Ht', #Hr0⟩, %W, HO⟩ Hk
  ihave #Hi := (ctx_dma k i 0 c) $$ HC
  ihave #Hi' := (ctx_dma k i 1 (peer i c)) $$ HC
  by_cases hk : k = 2
  · iapply (send_owns (q := fullShare) c (talkRd xv gv) (peer i c) (src := rowM k (peer i c)) (dst := slotM k i) (sS := dS k i 0) (sR := dS k i 1)
        (rowv (xv k c) (peer i c)) Y (K (dCell k i 0 c)) (K (dCell k i 1 (peer i c))) N (N_slot k i)
        (by rw [duties_dma _ _ _ _ _ _ (used01 k).1]; exact Finset.mem_singleton_self _) (by rw [duties_dma _ _ _ _ _ _ (used01 k).2]; exact Finset.mem_singleton_self _)
        (amount_dma xv gv k i 0 c 0) (amount_dma xv gv k i 1 (peer i c) 0) O rfl
        (by rw [payload_dma]; unfold dmaPay; dsimp only; rw [if_pos hk])
        (by rw [payload_dma]; unfold dmaPay; dsimp only; rw [if_pos hk, peer_peer]) Q) $$ [Hx Hs HO Ht Ht']
    · isplitr; · iexact Hi
      isplitr; · iexact Hi'
      isplitl [Hx]; · iexact Hx
      isplitl [Hs]; · iexact Hs
      isplitl [HO]; · iexact HO
      isplitl [Ht]; · iexact Ht
      isplitr; · iexact Hr0
      isplitl [Ht']; · iexact Ht'
      iexact Hr1
    iintro ⟨Hc, HO⟩
    iapply Hk
    isplitl [Hc]
    · isplitl [Hc]; · iexact Hc
      iexact Hr3
    · iexists W; iexact HO
  · iapply (send_owns_away (q := fullShare) c (talkRd xv gv) (peer i c) (src := rowM k (peer i c)) (dst := slotM k i) (sS := dS k i 0) (sR := dS k i 1)
        (rowv (xv k c) (peer i c)) Y (K (dCell k i 0 c)) (K (dCell k i 1 (peer i c))) N (N_slot k i)
        (by rw [duties_dma _ _ _ _ _ _ (used01 k).1]; exact Finset.mem_singleton_self _) (by rw [duties_dma _ _ _ _ _ _ (used01 k).2]; exact Finset.mem_singleton_self _)
        (amount_dma xv gv k i 0 c 0) (amount_dma xv gv k i 1 (peer i c) 0) O rfl
        (by rw [payload_dma]; unfold dmaPay; dsimp only; rw [if_neg hk])
        (by
          rw [payload_dma]; unfold dmaPay; dsimp only; rw [if_neg hk, peer_peer]
          iintro ⟨H, H'⟩
          isplitl [H]; · iexact H
          iexists _; iexact H') Q) $$ [Hx Hs HO Ht Ht']
    · isplitr; · iexact Hi
      isplitr; · iexact Hi'
      isplitl [Hx]; · iexact Hx
      isplitl [Hs]; · iexact Hs
      isplitl [HO]; · iexact HO
      isplitl [Ht]; · iexact Ht
      isplitr; · iexact Hr0
      isplitl [Ht']; · iexact Ht'
      iexact Hr1
    iintro ⟨Hc, HO⟩
    iapply Hk
    isplitl [Hc]
    · isplitl [Hc]; · iexact Hc
      iexact Hr3
    · iexists W; iexact HO

theorem rs_phase (hx) (hr) (h) (hw) : ∀ (l : List (Fin 7)) (Q : PUnit → sProp 𝕄),
    iprop(Ctx xv gv K ∗ bigSepL l (rsIn c k xv) ∗ owesE c (owe (rsO k c) l + O))
      ⊢ iprop(((bigSepL l (rsOut c k) ∗ owesE c O) -∗ WP c p Q)
          -∗ WP c (runL l (rsSend (xM k) hx (rM k) hr (sD k) (rD k) (pRs c) (offP c) h hw) p) Q)
  | [], Q => by
    iintro ⟨-, Hl, HO⟩ Hk
    iapply Hk
    isplitl [Hl]; · iexact Hl
    rw [show owe (rsO k c) [] + O = O from zero_add O]
    iexact HO
  | i :: l, Q => by
    rw [bL_cons, bL_cons, owe_cons]
    iintro ⟨#HC, ⟨Hi, Hl⟩, HO⟩ Hk
    iapply (rs_step c k (owe (rsO k c) l + O) Q (runL l (rsSend (xM k) hx (rM k) hr (sD k) (rD k) (pRs c) (offP c) h hw) p) i (pRs c i) (pRs_eq c i) (offP c i) (offP_eq c i) (h i) _ _ _) $$ [Hi HO]
    · isplitr; · iexact HC
      isplitl [Hi] <;> iassumption
    iintro ⟨Hi, HO⟩
    iapply (rs_phase hx hr h hw l Q) $$ [Hl HO]
    · isplitr; · iexact HC
      isplitl [Hl] <;> iassumption
    iintro ⟨Hl, HO⟩
    iapply Hk
    isplitl [Hi Hl]
    · isplitl [Hi] <;> iassumption
    · iexact HO

/-! ## The all-gather copies -/

/-- What is given for the all-gather copy to partner `i`. -/
def agIn (gv : Fin 3 → S64x2048.Idx → Elt F .bf16) (i : Fin 7) : sProp 𝕄 :=
  iprop(owns (c : Thread nD τ) (rowM k c) (qs i) (rowv (gv k) c) ∗ (∃ Y, owns (peer i c : Thread nD τ) (rowM k c) fullShare Y)
    ∗ dutyTok ER (dCell k i 2 c) 0 0 ∗ dutyTok ER (dCell k i 3 (peer i c)) 0 0 ∗ reached ER (dCell k i 2 c) 0 ∗ reached ER (dCell k i 3 (peer i c)) 0)

theorem ag_step (hk : k ≠ 2) (i : Fin 7) (d : Dev nD) (hd : d = peer i c) (off : Fin 2 → ℕ) (ho : off = ![8 * c.val, 0]) (h) (hw) (hw') (ht) :
    iprop(Ctx xv gv K ∗ agIn c k gv i ∗ owesE c (O + agO k c i))
      ⊢ iprop(((cred (tallyAt (dCell k i 2 c) () N) ∗ owesE c O) -∗ WP c p Q)
          -∗ WP c (.op (.enqueueDma (rowsOf (xM k) off h) (.remote (d : Thread nD τ) (rowsOf (xM k) off h) (.dma (dS k i 2))) (.dma (dS k i 3)) hw hw' ht) fun _ => p) Q) := by
  subst hd ho
  unfold agIn owesE
  iintro ⟨#HC, ⟨Hx, ⟨%Y, Hs⟩, Ht, Ht', #Hr2, #Hr3⟩, %W, HO⟩ Hk
  ihave #Hi := (ctx_dma k i 2 c) $$ HC
  ihave #Hi' := (ctx_dma k i 3 (peer i c)) $$ HC
  iapply (send_owns (q := qs i) c (talkRd xv gv) (peer i c) (src := rowM k c) (dst := rowM k c) (sS := dS k i 2) (sR := dS k i 3)
      (rowv (gv k) c) Y (K (dCell k i 2 c)) (K (dCell k i 3 (peer i c))) N (N_row k c)
      (by rw [duties_dma _ _ _ _ _ _ (.inl hk)]; exact Finset.mem_singleton_self _) (by rw [duties_dma _ _ _ _ _ _ (.inl hk)]; exact Finset.mem_singleton_self _)
      (amount_dma xv gv k i 2 c 0) (amount_dma xv gv k i 3 (peer i c) 0) (O₀ := O + agO k c i) O (by unfold agO; rw [if_neg hk])
      (by rw [payload_dma]; exact .rfl)
      (by rw [payload_dma]; unfold dmaPay; dsimp only; rw [peer_peer]) Q) $$ [Hx Hs HO Ht Ht']
  · isplitr; · iexact Hi
    isplitr; · iexact Hi'
    isplitl [Hx]; · iexact Hx
    isplitl [Hs]; · iexact Hs
    isplitl [HO]; · iexact HO
    isplitl [Ht]; · iexact Ht
    isplitr; · iexact Hr2
    isplitl [Ht']; · iexact Ht'
    iexact Hr3
  iintro ⟨Hc, HO⟩
  iapply Hk
  isplitl [Hc]; · iexact Hc
  iexists W; iexact HO

theorem ag_phase (hk : k ≠ 2) (hx) (h) (hw) : ∀ (l : List (Fin 7)) (Q : PUnit → sProp 𝕄),
    iprop(Ctx xv gv K ∗ bigSepL l (agIn c k gv) ∗ owesE c (owe (agO k c) l + O))
      ⊢ iprop(((bigSepL l (fun i => cred (tallyAt (dCell k i 2 c) () N)) ∗ owesE c O) -∗ WP c p Q)
          -∗ WP c (runL l (agSend (xM k) hx (sD k) (rD k) (pAg c) (k1_off3 c) h hw) p) Q)
  | [], Q => by
    iintro ⟨-, Hl, HO⟩ Hk
    iapply Hk
    isplitl [Hl]; · iexact Hl
    rw [show owe (agO k c) [] + O = O from zero_add O]
    iexact HO
  | i :: l, Q => by
    rw [bL_cons, bL_cons, owe_cons]
    iintro ⟨#HC, ⟨Hi, Hl⟩, HO⟩ Hk
    iapply (ag_step c k (owe (agO k c) l + O) Q (runL l (agSend (xM k) hx (sD k) (rD k) (pAg c) (k1_off3 c) h hw) p) hk i (pAg c i) (pAg_eq c i) (k1_off3 c) (off3_eq c) h _ _ _) $$ [Hi HO]
    · isplitr; · iexact HC
      isplitl [Hi] <;> iassumption
    iintro ⟨Hi, HO⟩
    iapply (ag_phase hk hx h hw l Q) $$ [Hl HO]
    · isplitr; · iexact HC
      isplitl [Hl] <;> iassumption
    iintro ⟨Hl, HO⟩
    iapply Hk
    isplitl [Hi Hl]
    · isplitl [Hi] <;> iassumption
    · iexact HO

end Cert.KernelIdeal.Hand

end
-- ==== Proof.Rows.lean ====
/- The 64-row buffer as eight blocks of eight rows, the landing buffer as seven slots, and shares of a block. -/
module

public import proofs.«01_k».proof.Proof.Phase
public import Idealize.ShloMosaic.Lib.StableHlo.CollectiveRules
public import Idealize.ShloMosaic.Lib.VecWindow

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

theorem app2 {α β γ : Type} (f : α → β → γ) {a a' : α} {b b' : β} (h : a = a') (h' : b = b') : f a b = f a' b' := by rw [h, h']

/-! ## Eight blocks -/

/-- The 64 rows made of eight blocks of eight rows. -/
def gath {α : Type} (f : Dev nD → S8x2048.Idx → α) : S64x2048.Idx → α := fun j =>
  f ⟨(j 0).val / 8, by have h : (j 0).val < 64 := (j 0).isLt; show (j 0).val / 8 < 8; omega⟩
    (fun a => ⟨(![(j 0).val % 8, (j 1).val] : Fin 2 → ℕ) a, by
      have h1 : (j 1).val < 2048 := (j 1).isLt
      match a with
      | 0 => exact Nat.mod_lt _ (by decide)
      | 1 => exact h1⟩)

theorem rowv_gath {α : Type} (f : Dev nD → S8x2048.Idx → α) (d : Dev nD) : rowv (gath f) d = f d := by
  funext j
  have h0 : (j 0).val < 8 := (j 0).isLt
  have e0 : ((rRow d).emb j 0).val = 8 * d.val + 1 * (j 0).val := rfl
  have e1 : ((rRow d).emb j 1).val = 0 + 1 * (j 1).val := rfl
  refine app2 f ?_ ?_
  · exact Fin.ext (by show ((rRow d).emb j 0).val / 8 = d.val; omega)
  · funext a
    refine Fin.ext ?_
    match a with
    | 0 => show ((rRow d).emb j 0).val % 8 = (j 0).val; omega
    | 1 => show ((rRow d).emb j 1).val = (j 1).val; omega

theorem rRow_disjoint (d d' : Dev nD) (h : d ≠ d') : Disjoint (rRow d).set (rRow d').set := by
  have hv : d.val ≠ d'.val := fun e => h (Fin.ext e)
  exact Rect.unit_disjoint 0 (by show 8 * d.val + 8 ≤ 8 * d'.val ∨ 8 * d'.val + 8 ≤ 8 * d.val; omega)
theorem rRow_cover : (Finset.univ : Finset (Dev nD)).biUnion (fun d => (rRow d).set) = Finset.univ := by
  ext j
  refine ⟨fun _ => Finset.mem_univ _, fun _ => Finset.mem_biUnion.mpr ⟨⟨(j 0).val / 8, by have h : (j 0).val < 64 := (j 0).isLt; show (j 0).val / 8 < 8; omega⟩, Finset.mem_univ _, Rect.mem_set_unit.mpr fun a => ?_⟩⟩
  have h1 : (j 1).val < 2048 := (j 1).isLt
  match a with
  | 0 => show 8 * ((j 0).val / 8) ≤ (j 0).val ∧ (j 0).val < 8 * ((j 0).val / 8) + 8; omega
  | 1 => show 0 ≤ (j 1).val ∧ (j 1).val < 0 + 2048; omega

variable (c : Dev nD) (k : Fin 3)

theorem univ7 (Φ : Fin 7 → sProp 𝕄) : bigSep Finset.univ Φ = bigSepL all7 Φ := bigSep_univ_eq_bigSepL all7 (by decide) (by decide) Φ

/-- The rounded operand's buffer is the own block and the seven partners'. -/
theorem rows_split (X : S64x2048.Idx → Elt F .bf16) :
    (owns (c : Thread nD τ) (xM k) fullShare X : sProp 𝕄)
      ⊢ iprop(owns (c : Thread nD τ) (rowM k c) fullShare (rowv X c) ∗ bigSep Finset.univ fun i => owns (c : Thread nD τ) (rowM k (peer i c)) fullShare (rowv X (peer i c))) := by
  rw [← bigSep_dev c (fun d => owns (c : Thread nD τ) (rowM k d) fullShare (rowv X d))]
  exact owns_rects (c : Thread nD τ) (xM k) fullShare rRow (fun _ _ => rfl) rRow_disjoint rRow_cover X
theorem rows_join [∀ e, Nonempty (Elt F e)] (X : S64x2048.Idx → Elt F .bf16) :
    iprop(owns (c : Thread nD τ) (rowM k c) fullShare (rowv X c) ∗ bigSep Finset.univ fun i => owns (c : Thread nD τ) (rowM k (peer i c)) fullShare (rowv X (peer i c)))
      ⊢ (owns (c : Thread nD τ) (xM k) fullShare X : sProp 𝕄) := by
  rw [← bigSep_dev c (fun d => owns (c : Thread nD τ) (rowM k d) fullShare (rowv X d))]
  exact owns_of_rects (c : Thread nD τ) (xM k) fullShare rRow (fun _ _ => rfl) rRow_disjoint rRow_cover X

/-! ## Seven slots -/

/-- The landing buffer made of seven slots. -/
def glue {α : Type} (f : Fin 7 → S1x8x2048.Idx → α) : S7x8x2048.Idx → α := fun j =>
  f ⟨(j 0).val, (j 0).isLt⟩ (fun a => ⟨(![0, (j 1).val, (j 2).val] : Fin 3 → ℕ) a, by
    have h1 : (j 1).val < 8 := (j 1).isLt
    have h2 : (j 2).val < 2048 := (j 2).isLt
    match a with
    | 0 => exact Nat.one_pos
    | 1 => exact h1
    | 2 => exact h2⟩)

theorem glue_slot {α : Type} (f : Fin 7 → S1x8x2048.Idx → α) (i : Fin 7) : (fun j => glue f ((rSlot i).emb j)) = f i := by
  funext j
  have h0 : (j 0).val < 1 := (j 0).isLt
  have e0 : ((rSlot i).emb j 0).val = i.val + 1 * (j 0).val := rfl
  have e1 : ((rSlot i).emb j 1).val = 0 + 1 * (j 1).val := rfl
  have e2 : ((rSlot i).emb j 2).val = 0 + 1 * (j 2).val := rfl
  refine app2 f ?_ ?_
  · exact Fin.ext (by show ((rSlot i).emb j 0).val = i.val; omega)
  · funext a
    refine Fin.ext ?_
    match a with
    | 0 => show 0 = (j 0).val; omega
    | 1 => show ((rSlot i).emb j 1).val = (j 1).val; omega
    | 2 => show ((rSlot i).emb j 2).val = (j 2).val; omega

theorem rSlot_disjoint (i i' : Fin 7) (h : i ≠ i') : Disjoint (rSlot i).set (rSlot i').set := by
  have hv : i.val ≠ i'.val := fun e => h (Fin.ext e)
  exact Rect.unit_disjoint 0 (by show i.val + 1 ≤ i'.val ∨ i'.val + 1 ≤ i.val; omega)
theorem rSlot_cover : (Finset.univ : Finset (Fin 7)).biUnion (fun i => (rSlot i).set) = Finset.univ := by
  ext j
  refine ⟨fun _ => Finset.mem_univ _, fun _ => Finset.mem_biUnion.mpr ⟨⟨(j 0).val, (j 0).isLt⟩, Finset.mem_univ _, Rect.mem_set_unit.mpr fun a => ?_⟩⟩
  have h1 : (j 1).val < 8 := (j 1).isLt
  have h2 : (j 2).val < 2048 := (j 2).isLt
  match a with
  | 0 => show (j 0).val ≤ (j 0).val ∧ (j 0).val < (j 0).val + 1; omega
  | 1 => show 0 ≤ (j 1).val ∧ (j 1).val < 0 + 8; omega
  | 2 => show 0 ≤ (j 2).val ∧ (j 2).val < 0 + 2048; omega

theorem slots_split (Y : S7x8x2048.Idx → Elt F .bf16) :
    (owns (c : Thread nD τ) (rM k) fullShare Y : sProp 𝕄) ⊢ bigSep Finset.univ fun i => iprop(∃ Y, owns (c : Thread nD τ) (slotM k i) fullShare Y) :=
  (owns_rects (c : Thread nD τ) (rM k) fullShare rSlot (fun _ _ => rfl) rSlot_disjoint rSlot_cover Y).trans
    (bigSep_mono fun i _ => owns_slot_any c (rM k) i _)
theorem slots_join [∀ e, Nonempty (Elt F e)] (f : Fin 7 → S1x8x2048.Idx → Elt F .bf16) :
    (bigSep Finset.univ fun i => owns (c : Thread nD τ) ((rM k).slice (rSlot i) (fun _ => rfl)) fullShare (f i))
      ⊢ (owns (c : Thread nD τ) (rM k) fullShare (glue f) : sProp 𝕄) := by
  have h := owns_of_rects (nD := nD) (τ := τ) (sig := sig) (Ix := Unit) (Val := Elt F) (Name := ℕ) (U := UU) (Lvl := ℕ)
    (c : Thread nD τ) (rM k) fullShare rSlot (fun _ _ => rfl) rSlot_disjoint rSlot_cover (glue f)
  simp only [glue_slot] at h
  exact h

/-! ## Seven shares -/

theorem shares {s : Shape} {e : EltTy} (m : Memref sig .tc .vmem s e) (X : s.Idx → Elt F e) :
    (owns (c : Thread nD τ) m fullShare X : sProp 𝕄) ⊣⊢ bigSep Finset.univ fun i => owns (c : Thread nD τ) m (qs i) X := by
  have h (n : ℕ) : (owns (c : Thread nD τ) m (qr n) X : sProp 𝕄) = iprop(owns (c : Thread nD τ) m (qr n).left X ∗ owns (c : Thread nD τ) m (qr (n + 1)) X) :=
    have e := owns_share (nD := nD) (τ := τ) (sig := sig) (Ix := Unit) (Val := Elt F) (Name := ℕ) (U := UU) (Lvl := ℕ) (c : Thread nD τ) m (PosShare.mem_left_op_right (qr n)) X
    BI.equiv_iff.mp ⟨e.1, e.2⟩
  have e : (owns (c : Thread nD τ) m fullShare X : sProp 𝕄) = owns (c : Thread nD τ) m (qr 0) X := rfl
  rw [univ7, e, h 0, h 1, h 2, h 3, h 4, h 5]
  exact .rfl

/-! ## Rectangles that are the whole, and a row's rectangle at an equal offset -/

theorem rAll_emb (j : S64x2048.Idx) : rAll.emb j = j := Rect.emb_unit_full (s := S64x2048) (off := ![0, 0]) inb_S64x2048_S64x2048_0_0 j
theorem overlay_all {α : Type} (X w : S64x2048.Idx → α) : rAll.overlay X w = w := by
  funext j
  have h := Rect.overlay_emb rAll X w j
  rw [rAll_emb] at h
  exact h

theorem row_store (off : Fin 2 → ℕ) (ho : off = ![8 * c.val, 0]) (h) (X w : S8x2048.Idx → Elt F .bf16) (hx) (hm) (p : TProg F) (Q : PUnit → sProp 𝕄) :
    owns (c : Thread nD τ) (rowM k c) fullShare X
      ⊢ iprop((owns (c : Thread nD τ) (rowM k c) fullShare w -∗ WP c p Q) -∗ WP c (.op (.store (xM k) (Rect.unit (s := S64x2048) off S8x2048.size h) w Finset.univ hx hm) fun _ => p) Q) := by
  subst ho
  exact store_slice c (xM k) (rRow c) (fun _ => rfl) w hx hm (fun _ => p) X Q
theorem row_load (off : Fin 2 → ℕ) (ho : off = ![8 * c.val, 0]) (h) (X : S8x2048.Idx → Elt F .bf16) (hl) (p : (S8x2048.Idx → Elt F .bf16) → TProg F) (Q : PUnit → sProp 𝕄) :
    owns (c : Thread nD τ) (rowM k c) fullShare X
      ⊢ iprop((owns (c : Thread nD τ) (rowM k c) fullShare X -∗ WP c (p X) Q) -∗ WP c (.op (.load (xM k) (Rect.unit (s := S64x2048) off S8x2048.size h).toLoadRect hl) p) Q) := by
  subst ho
  exact load_slice c (xM k) (rRow c) (fun _ => rfl) hl p X Q
theorem rOwn_eq : rOwn c = rRow c := by
  have (off : Fin 2 → ℕ) (h) (ho : off = ![8 * c.val, 0]) : Rect.unit (s := S64x2048) off S8x2048.size h = rRow c := by subst ho; rfl
  exact this _ _ (off2_eq c)

end Cert.KernelIdeal.Hand

end
-- ==== Proof.Talk.lean ====
/- An all-reduce call on one device, run from its first operation to its return. -/
module

public import proofs.«01_k».proof.Proof.Rows

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The contents -/

/- The operand of call `k` on each device. -/
variable (pv : Fin 3 → Dev nD → S64x2048.Idx → Elt F .f32)

/-- It rounded; what device `c` reads of slot `i`; the sum over the first six devices; the whole sum; and what the all-gather leaves. -/
def xvOf (k : Fin 3) (c : Dev nD) : S64x2048.Idx → Elt F .bf16 := k1_pay2 (pv k c)
def slv (k : Fin 3) (c : Dev nD) (i : Fin 7) : S1x8x2048.Idx → Elt F .bf16 := unsq (rowv (xvOf pv k (peer i c)) c)
def partv (k : Fin 3) (c : Dev nD) : FVec F S8x2048 .f32 :=
  k1_pay3 (rowv (pv k c) c) (slv pv k c 0) (slv pv k c 1) (slv pv k c 2) (slv pv k c 3) (slv pv k c 4)
def sumv (k : Fin 3) (c : Dev nD) : S8x2048.Idx → Elt F .f32 := k1_pay5 (partv pv k c) (k1_pay4 (slv pv k c 5)) (slv pv k c 6)
def gvOf (k : Fin 3) : S64x2048.Idx → Elt F .bf16 := gath fun d => k1_pay6 (partv pv k d) (k1_pay4 (slv pv k d 5)) (slv pv k d 6)
/-- The result of the first two calls on device `c`. -/
def outv (k : Fin 3) (c : Dev nD) : S64x2048.Idx → Elt F .f32 := (rRow c).overlay (k1_pay1 (gvOf pv k)) (sumv pv k c)

abbrev CtxP (K : GSem nD τ sig → ℕ) : sProp 𝕄 := Ctx (xvOf pv) (gvOf pv) K

variable {pv} {K : GSem nD τ sig → ℕ} (c : Dev nD) (k : Fin 3)

/-! ## Families over the partners -/

theorem bS_sep (Φ Ψ : Fin 7 → sProp 𝕄) :
    bigSep Finset.univ (fun i => iprop(Φ i ∗ Ψ i)) = iprop(bigSep Finset.univ Φ ∗ bigSep Finset.univ Ψ) := bigSep_sep _ _ _

theorem sigIn_intro :
    iprop((bigSep Finset.univ fun i => dutyTok ER (bCell k (peer i c)) 0 i) ∗ (bigSep Finset.univ fun i => iprop(∃ Y, owns (c : Thread nD τ) (slotM k i) fullShare Y))
      ∗ (bigSep Finset.univ fun i => reached ER (dCell k i 1 c) 0) ∗ bigSep Finset.univ fun i => reached ER (dCell k i 3 c) 0)
      ⊢ (bigSepL all7 (sigIn c k) : sProp 𝕄) := by
  rw [← univ7]; unfold sigIn
  rw [bS_sep, bS_sep, bS_sep]
theorem rsIn_intro (xv : Fin 3 → Dev nD → S64x2048.Idx → Elt F .bf16) :
    iprop((bigSep Finset.univ fun i => barPay k i c) ∗ (bigSep Finset.univ fun i => owns (c : Thread nD τ) (rowM k (peer i c)) fullShare (rowv (xv k c) (peer i c)))
      ∗ (bigSep Finset.univ fun i => dutyTok ER (dCell k i 0 c) 0 0) ∗ (bigSep Finset.univ fun i => dutyTok ER (dCell k i 1 (peer i c)) 0 0)
      ∗ bigSep Finset.univ fun i => reached ER (dCell k i 0 c) 0)
      ⊢ (bigSepL all7 (rsIn c k xv) : sProp 𝕄) := by
  rw [← univ7]; unfold rsIn
  rw [bS_sep, bS_sep, bS_sep, bS_sep]
theorem rsOut_elim :
    (bigSepL all7 (rsOut c k) : sProp 𝕄)
      ⊢ iprop((bigSep Finset.univ fun i => cred (tallyAt (dCell k i 0 c) () N)) ∗ bigSep Finset.univ fun i => reached ER (dCell k i 3 (peer i c)) 0) := by
  rw [← univ7]; unfold rsOut
  rw [bS_sep]
theorem waitIn_intro (a b : Fin 4) :
    iprop((bigSep Finset.univ fun i => cred (tallyAt (dCell k i a c) () N)) ∗ (bigSep Finset.univ fun i => atPos ER (dCell k i a c) 0 ∅ 0)
      ∗ (bigSep Finset.univ fun i => cred (tallyAt (dCell k i b c) () N)) ∗ bigSep Finset.univ fun i => atPos ER (dCell k i b c) 0 ∅ 0)
      ⊢ (bigSepL all7 (waitIn c k a b) : sProp 𝕄) := by
  rw [← univ7]; unfold waitIn
  rw [bS_sep, bS_sep, bS_sep]
  iintro ⟨H1, H2, H3, H4⟩
  isplitl [H1 H2]
  · isplitl [H1] <;> iassumption
  · isplitl [H3] <;> iassumption
theorem waitOut_elim (xv : Fin 3 → Dev nD → S64x2048.Idx → Elt F .bf16) (gv : Fin 3 → S64x2048.Idx → Elt F .bf16) (a b : Fin 4) :
    (bigSepL all7 (waitOut c k xv gv a b) : sProp 𝕄)
      ⊢ iprop((bigSep Finset.univ fun i => atPos ER (dCell k i a c) 1 ∅ 0) ∗ (bigSep Finset.univ fun i => atPos ER (dCell k i b c) 1 ∅ 0)
      ∗ (bigSep Finset.univ fun i => dmaPay xv gv k i c a) ∗ bigSep Finset.univ fun i => dmaPay xv gv k i c b) := by
  rw [← univ7]; unfold waitOut
  rw [bS_sep, bS_sep, bS_sep]
  iintro ⟨⟨H1, H2⟩, H3, H4⟩
  isplitl [H1]; · iexact H1
  isplitl [H2]; · iexact H2
  isplitl [H3] <;> iassumption
theorem agIn_intro (gv : Fin 3 → S64x2048.Idx → Elt F .bf16) :
    iprop((bigSep Finset.univ fun i => owns (c : Thread nD τ) (rowM k c) (qs i) (rowv (gv k) c)) ∗ (bigSep Finset.univ fun i => iprop(∃ Y, owns (peer i c : Thread nD τ) (rowM k c) fullShare Y))
      ∗ (bigSep Finset.univ fun i => dutyTok ER (dCell k i 2 c) 0 0) ∗ (bigSep Finset.univ fun i => dutyTok ER (dCell k i 3 (peer i c)) 0 0)
      ∗ (bigSep Finset.univ fun i => reached ER (dCell k i 2 c) 0) ∗ bigSep Finset.univ fun i => reached ER (dCell k i 3 (peer i c)) 0)
      ⊢ (bigSepL all7 (agIn c k gv) : sProp 𝕄) := by
  rw [← univ7]; unfold agIn
  rw [bS_sep, bS_sep, bS_sep, bS_sep, bS_sep]

/-- What lands in the slots, as the loads read it. -/
abbrev slotsAt (pv : Fin 3 → Dev nD → S64x2048.Idx → Elt F .f32) : sProp 𝕄 :=
  bigSep Finset.univ fun i => owns (c : Thread nD τ) ((rM k).slice (rSlot i) (fun _ => rfl)) fullShare (slv pv k c i)

theorem slots_of_pay (hk : k ≠ 2) :
    (bigSep Finset.univ fun i => dmaPay (xvOf pv) (gvOf pv) k i c 1)
      ⊢ (iprop(slotsAt c k pv ∗ bigSep Finset.univ fun i => iprop(∃ Y, owns (peer i c : Thread nD τ) (rowM k c) fullShare Y)) : sProp 𝕄) := by
  rw [← bS_sep]
  refine bigSep_mono fun i _ => ?_
  unfold dmaPay; dsimp only; rw [if_neg hk]
  exact Idealize.SL.BI.sep_mono (owns_slot c (rM k) i (rowv (xvOf pv k (peer i c)) c)) (fun _ h => h)
theorem slots_of_pay2 (hk : k = 2) :
    (bigSep Finset.univ fun i => dmaPay (xvOf pv) (gvOf pv) k i c 1) ⊢ (slotsAt c k pv : sProp 𝕄) := by
  refine bigSep_mono fun i _ => ?_
  unfold dmaPay; dsimp only; rw [if_pos hk]
  exact owns_slot c (rM k) i (rowv (xvOf pv k (peer i c)) c)

/-! ## Loads and stores of whole arrays and of own rows -/

theorem load_all {e : EltTy} {q : PosShare TreeShare} (m : Memref sig .tc .vmem S64x2048 e) (hl) (p : (S64x2048.Idx → Elt F e) → TProg F) (X : S64x2048.Idx → Elt F e) (Q : PUnit → sProp 𝕄) :
    owns (c : Thread nD τ) m q X
      ⊢ iprop((owns (c : Thread nD τ) m q X -∗ WP c (p X) Q) -∗ WP c (.op (.load m rAll.toLoadRect hl) p) Q) := by
  have h := load_owns (q := q) c m rAll hl p X Q
  rwa [show (fun j => X (rAll.emb j)) = X from funext fun j => congrArg X (rAll_emb j)] at h
theorem store_all [∀ e, Nonempty (Elt F e)] {e : EltTy} (m : Memref sig .tc .vmem S64x2048 e) (w : S64x2048.Idx → Elt F e) (hx) (hm) (p : PUnit → TProg F)
    (X : S64x2048.Idx → Elt F e) (Q : PUnit → sProp 𝕄) :
    owns (c : Thread nD τ) m fullShare X
      ⊢ iprop((owns (c : Thread nD τ) m fullShare w -∗ WP c (p ⟨⟩) Q) -∗ WP c (.op (.store m rAll w Finset.univ hx hm) p) Q) := by
  have h := store_owns c m rAll w hx hm p X Q
  rwa [overlay_all] at h
theorem load_row {e : EltTy} {q : PosShare TreeShare} (m : Memref sig .tc .vmem S64x2048 e) (off : Fin 2 → ℕ) (ho : off = ![8 * c.val, 0]) (h) (hl) (p : (S8x2048.Idx → Elt F e) → TProg F)
    (X : S64x2048.Idx → Elt F e) (Q : PUnit → sProp 𝕄) :
    owns (c : Thread nD τ) m q X
      ⊢ iprop((owns (c : Thread nD τ) m q X -∗ WP c (p (rowv X c)) Q) -∗ WP c (.op (.load m (Rect.unit (s := S64x2048) off S8x2048.size h).toLoadRect hl) p) Q) := by
  subst ho
  exact load_owns (q := q) c m (rRow c) hl p X Q
theorem store_row [∀ e, Nonempty (Elt F e)] {e : EltTy} (m : Memref sig .tc .vmem S64x2048 e) (off : Fin 2 → ℕ) (ho : off = ![8 * c.val, 0]) (h) (w : S8x2048.Idx → Elt F e) (hx) (hm) (p : PUnit → TProg F)
    (X : S64x2048.Idx → Elt F e) (Q : PUnit → sProp 𝕄) :
    owns (c : Thread nD τ) m fullShare X
      ⊢ iprop((owns (c : Thread nD τ) m fullShare ((rRow c).overlay X w) -∗ WP c (p ⟨⟩) Q) -∗ WP c (.op (.store m (Rect.unit (s := S64x2048) off S8x2048.size h) w Finset.univ hx hm) p) Q) := by
  subst ho
  exact store_owns c m (rRow c) w hx hm p X Q

theorem store_end [∀ e, Nonempty (Elt F e)] (m : Memref sig .tc .vmem S8x2048 .f32) (w : S8x2048.Idx → Elt F .f32) (hx) (hm) (p : PUnit → TProg F)
    (X : S8x2048.Idx → Elt F .f32) (Q : PUnit → sProp 𝕄) :
    owns (c : Thread nD τ) m fullShare X
      ⊢ iprop((owns (c : Thread nD τ) m fullShare w -∗ WP c (p ⟨⟩) Q)
        -∗ WP c (.op (.store m (Rect.unit (s := S8x2048) ![0, 0] S8x2048.size inb_S8x2048_S8x2048_0_0) w Finset.univ hx hm) p) Q) := by
  have h := store_owns c m (Rect.unit (s := S8x2048) ![0, 0] S8x2048.size inb_S8x2048_S8x2048_0_0) w hx hm p X Q
  have e : (Rect.unit (s := S8x2048) ![0, 0] S8x2048.size inb_S8x2048_S8x2048_0_0).overlay X w = w := by
    funext j
    have h := Rect.overlay_emb (Rect.unit (s := S8x2048) ![0, 0] S8x2048.size inb_S8x2048_S8x2048_0_0) X w j
    rwa [Rect.emb_unit_full (s := S8x2048) (off := ![0, 0]) inb_S8x2048_S8x2048_0_0 j] at h
  rwa [e] at h

/-- The last call owes nothing for an all-gather. -/
theorem agO_none (hk : k = 2) (D : CellTallies nD τ sig Unit) : owe (agO k c) all7 + D = D := by
  subst hk
  have h (i : Fin 7) : agO 2 c i = 0 := tallyAt_zero _ _
  show agO 2 c 0 + (agO 2 c 1 + (agO 2 c 2 + (agO 2 c 3 + (agO 2 c 4 + (agO 2 c 5 + (agO 2 c 6 + 0)))))) + D = D
  rw [h, h, h, h, h, h, h]
  simp

/-! ## The reduce-scatter half -/

variable (arg0 : Memref sig .tc .vmem S64x2048 .f32) (D : CellTallies nD τ sig Unit)

/-- What device `c` needs for the first half of call `k`: its place on its cells, what it waits with, what it pays with. -/
def headIn : sProp 𝕄 :=
  iprop((atPos ER (bCell k c) 0 ∅ 0 ∗ cred (tallyAt (bCell k c) () 7))
    ∗ (bigSep Finset.univ fun i => dutyTok ER (bCell k (peer i c)) 0 i)
    ∗ ((bigSep Finset.univ fun i => dutyTok ER (dCell k i 0 c) 0 0) ∗ bigSep Finset.univ fun i => dutyTok ER (dCell k i 1 (peer i c)) 0 0)
    ∗ ((bigSep Finset.univ fun i => atPos ER (dCell k i 0 c) 0 ∅ 0) ∗ bigSep Finset.univ fun i => atPos ER (dCell k i 1 c) 0 ∅ 0)
    ∗ bigSep Finset.univ fun i => cred (tallyAt (dCell k i 1 c) () N))
/-- What it needs for the second half. -/
def tailIn : sProp 𝕄 :=
  iprop(((bigSep Finset.univ fun i => dutyTok ER (dCell k i 2 c) 0 0) ∗ bigSep Finset.univ fun i => dutyTok ER (dCell k i 3 (peer i c)) 0 0)
    ∗ ((bigSep Finset.univ fun i => atPos ER (dCell k i 2 c) 0 ∅ 0) ∗ bigSep Finset.univ fun i => atPos ER (dCell k i 3 c) 0 ∅ 0)
    ∗ bigSep Finset.univ fun i => cred (tallyAt (dCell k i 3 c) () (if k = 2 then 0 else N)))
/-- Its four families of cells are open. -/
def openR : sProp 𝕄 :=
  iprop((bigSep Finset.univ fun i => reached ER (dCell k i 0 c) 0) ∗ (bigSep Finset.univ fun i => reached ER (dCell k i 1 c) 0)
    ∗ (bigSep Finset.univ fun i => reached ER (dCell k i 2 c) 0) ∗ bigSep Finset.univ fun i => reached ER (dCell k i 3 c) 0)
instance openR_persistent : BI.Persistent (openR (F := F) c k) := by unfold openR; infer_instance

/-- What is there after the first half. -/
def headOut (pv : Fin 3 → Dev nD → S64x2048.Idx → Elt F .f32) : sProp 𝕄 :=
  iprop(atPos ER (bCell k c) 1 ∅ 0
    ∗ ((bigSep Finset.univ fun i => atPos ER (dCell k i 0 c) 1 ∅ 0) ∗ bigSep Finset.univ fun i => atPos ER (dCell k i 1 c) 1 ∅ 0)
    ∗ owns (c : Thread nD τ) (rowM k c) fullShare (rowv (xvOf pv k c) c)
    ∗ ((bigSep Finset.univ fun i => dmaPay (xvOf pv) (gvOf pv) k i c 0) ∗ bigSep Finset.univ fun i => dmaPay (xvOf pv) (gvOf pv) k i c 1)
    ∗ bigSep Finset.univ fun i => reached ER (dCell k i 3 (peer i c)) 0)

variable [∀ e, Nonempty (Elt F e)]

theorem head_run (hD : Above (3 * k.val + 3) D) (hx) (hr) (p : TProg F) (Q : PUnit → sProp 𝕄) :
    iprop(CtxP pv K ∗ openR c k ∗ headIn c k ∗ owns (c : Thread nD τ) arg0 fullShare (pv k c)
        ∗ (∃ X, owns (c : Thread nD τ) (xM k) fullShare X) ∗ (∃ Y, owns (c : Thread nD τ) (rM k) fullShare Y) ∗ owesE c (callO k c + D))
      ⊢ iprop(((headOut c k pv ∗ owns (c : Thread nD τ) arg0 fullShare (pv k c) ∗ owesE c (owe (agO k c) all7 + D)) -∗ WP c p Q)
          -∗ WP c (headP (bS k) arg0 (xM k) hx (rM k) hr (sD k) (rD k) c p) Q) := by
  unfold headIn openR callO headP
  rw [add_assoc, add_assoc]
  iintro ⟨#HC, ⟨#R0, #R1, #R2, #R3⟩, ⟨⟨Hab, Hcb⟩, HT0, ⟨HT1, HT2⟩, ⟨HA0, HA1⟩, HC1⟩, Hp, ⟨%X, Hx⟩, ⟨%Y, Hr⟩, HO⟩ Hk
  iapply (sig_phase (xv := xvOf pv) (gv := gvOf pv) (K := K) c k (owe (rsO k c) all7 + (owe (agO k c) all7 + D)) Q _ all7) $$ [HT0 Hr HO]
  · isplitr; · iexact HC
    isplitr [HO]
    · iapply (sigIn_intro c k)
      isplitl [HT0]; · iexact HT0
      isplitl [Hr]; · iapply (slots_split c k Y) $$ Hr
      isplitr; · iexact R1
      iexact R3
    · iexact HO
  iintro HO
  iapply (bar_wait (xv := xvOf pv) (gv := gvOf pv) (K := K) c k _ Q _
    (Above.add (above_rs k c (by omega) _) (Above.add (above_ag k c (by omega) _) (fun g u h => ⟨(hD g u h).1, by have := (hD g u h).2; omega⟩)))) $$ [Hcb Hab HO]
  · isplitr; · iexact HC
    isplitl [Hcb]; · iexact Hcb
    isplitl [Hab] <;> iassumption
  iintro ⟨HO, Hab, HB⟩
  iapply (load_all c arg0 _ _ (pv k c) Q) $$ Hp
  iintro Hp
  iapply (load_all c (xM k) _ _ X Q) $$ Hx
  iintro Hx
  iapply (store_all c (xM k) _ _ _ _ X Q) $$ Hx
  iintro Hx
  ihave Hx' := (show owns (c : Thread nD τ) (xM k) fullShare (k1_pay2 (pv k c)) ⊢ _ from rows_split c k (xvOf pv k c)) $$ Hx
  icases Hx' with ⟨Hown, Hrows⟩
  iapply (rs_phase (xv := xvOf pv) (gv := gvOf pv) (K := K) c k (owe (agO k c) all7 + D) _ hx hr _ _ all7 Q) $$ [HB Hrows HT1 HT2 HO]
  · isplitr; · iexact HC
    isplitr [HO]
    · iapply (rsIn_intro c k (xvOf pv))
      isplitl [HB]; · iexact HB
      isplitl [Hrows]; · iexact Hrows
      isplitl [HT1]; · iexact HT1
      isplitl [HT2]; · iexact HT2
      iexact R0
    · iexact HO
  iintro ⟨Hl, HO⟩
  ihave Hl' := (rsOut_elim c k) $$ Hl
  icases Hl' with ⟨HC0, HR3⟩
  iapply (wait_phase (xv := xvOf pv) (gv := gvOf pv) (K := K) c k (owe (agO k c) all7 + D) p 0 1 (used01 k).1 (used01 k).2 (n := 3 * k.val + 2)
    (Above.add (above_ag k c (by omega) _) (fun g u h => ⟨(hD g u h).1, by have := (hD g u h).2; omega⟩))
    (fun i => by rw [lv_snd0]; omega) (fun i => by rw [lv_rs]) _ _
    (fun i => slotOf (rM k) i) (fun i => rowsOf (xM k) (offP c i) (k1_off1_inb c i)) (fun i => rowsOf (xM k) (offP c i) (k1_off1_inb c i)) (fun i => slotOf (rM k) i)
    (fun i => (hr.wordExact_slice rfl _ (words7 i)).reshape _ _) (fun i => hx.wordExact_slice rfl _ (k1_off1_wordsbf16 c i))
    (fun i => hx.wordExact_slice rfl _ (k1_off1_wordsbf16 c i)) (fun i => (hr.wordExact_slice rfl _ (words7 i)).reshape _ _)
    (fun i => rfl) (fun i => rfl)
    (fun i => N_row k 0) (fun i => N_slot k i) all7 Q) $$ [HC0 HC1 HA0 HA1 HO]
  · isplitr; · iexact HC
    isplitr [HO]
    · iapply (waitIn_intro c k 0 1)
      isplitl [HC0]; · iexact HC0
      isplitl [HA0]; · iexact HA0
      isplitl [HC1] <;> iassumption
    · iexact HO
  iintro ⟨HO, Hl⟩
  ihave Hl' := (waitOut_elim c k (xvOf pv) (gvOf pv) 0 1) $$ Hl
  icases Hl' with ⟨HA0, HA1, HP0, HP1⟩
  iapply Hk
  unfold headOut
  isplitr [Hp HO]
  · isplitl [Hab]; · iexact Hab
    isplitl [HA0 HA1]
    · isplitl [HA0] <;> iassumption
    isplitl [Hown]; · iexact Hown
    isplitl [HP0 HP1]
    · isplitl [HP0] <;> iassumption
    · iexact HR3
  · isplitl [Hp] <;> iassumption

/-! ## The sum over the devices -/

theorem sum_run (p : FVec F S8x2048 .f32 → FVec F S8x2048 .bf16 → Vec F S1x8x2048 .bf16 → TProg F) (Q : PUnit → sProp 𝕄) :
    iprop(owns (c : Thread nD τ) arg0 fullShare (pv k c) ∗ slotsAt c k pv)
      ⊢ iprop(((owns (c : Thread nD τ) arg0 fullShare (pv k c) ∗ slotsAt c k pv) -∗ WP c (p (partv pv k c) (k1_pay4 (slv pv k c 5)) (slv pv k c 6)) Q)
          -∗ WP c (sumP arg0 (rM k) c p) Q) := by
  unfold slotsAt sumP
  rw [univ7]
  unfold all7
  rw [bL_cons, bL_cons, bL_cons, bL_cons, bL_cons, bL_cons, bL_cons]
  iintro ⟨Hp, H0, H1, H2, H3, H4, H5, H6, H7⟩ Hk
  iapply (load_row c arg0 _ (off2_eq c) _ _ _ (pv k c) Q) $$ Hp
  iintro Hp
  iapply (load_slice c (rM k) (rSlot 0) _ _ _ _ Q) $$ H0
  iintro H0
  iapply (load_slice c (rM k) (rSlot 1) _ _ _ _ Q) $$ H1
  iintro H1
  iapply (load_slice c (rM k) (rSlot 2) _ _ _ _ Q) $$ H2
  iintro H2
  iapply (load_slice c (rM k) (rSlot 3) _ _ _ _ Q) $$ H3
  iintro H3
  iapply (load_slice c (rM k) (rSlot 4) _ _ _ _ Q) $$ H4
  iintro H4
  iapply (load_slice c (rM k) (rSlot 5) _ _ _ _ Q) $$ H5
  iintro H5
  iapply (load_slice c (rM k) (rSlot 6) _ _ _ _ Q) $$ H6
  iintro H6
  iapply Hk
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## The cells are closed -/

theorem close_dma (a : Fin 4) (R : ℕ) (h : ∀ i r, R ≤ r → (talkRd (xvOf pv) (gvOf pv)).duties (dCell k i a c) r = ∅) : ∀ l : List (Fin 7),
    iprop(CtxP pv K ∗ bigSepL l fun i => atPos ER (dCell k i a c) R ∅ 0) ⊢ (|={Set.univ}=> bigSepL l fun i => semVal (dCell k i a c) 0 : sProp 𝕄)
  | [] => by
    iintro ⟨-, H⟩
    imodintro
    iexact H
  | i :: l => by
    rw [bL_cons, bL_cons]
    iintro ⟨#HC, Hi, Hl⟩
    ihave #HI := (ctx_dma k i a c) $$ HC
    imod (Rounds.cell_close ER (talkRd (xvOf pv) (gvOf pv)) (Set.mem_univ (K (dCell k i a c))) id (h i)) $$ [Hi] with Hs
    · isplitr; · iexact HI
      iexact Hi
    imod (close_dma a R h l) $$ [Hl] with Hl
    · isplitr; · iexact HC
      iexact Hl
    imodintro
    isplitl [Hs]; · iexact Hs
    iexact Hl
theorem close_bar : iprop(CtxP pv K ∗ atPos ER (bCell k c) 1 ∅ 0) ⊢ (|={Set.univ}=> semVal (bCell k c) 0 : sProp 𝕄) := by
  iintro ⟨#HC, H⟩
  ihave #HI := ((ctx_bar k c).trans sep_elim_left) $$ HC
  imod (Rounds.cell_close ER (talkRd (xvOf pv) (gvOf pv)) (Set.mem_univ (K (bCell k c))) id (duties_later _ _ _)) $$ [H] with Hs
  · isplitr; · iexact HI
    iexact H
  imodintro
  iexact Hs

/-- The counters of one family of cells, at zero. -/
abbrev zeros (a : Fin 4) : sProp 𝕄 := bigSep Finset.univ fun i : Fin 7 => semVal (dCell k i a c) 0

theorem close_fam (a : Fin 4) (R : ℕ) (h : ∀ i r, R ≤ r → (talkRd (xvOf pv) (gvOf pv)).duties (dCell k i a c) r = ∅) :
    iprop(CtxP pv K ∗ bigSep Finset.univ fun i => atPos ER (dCell k i a c) R ∅ 0) ⊢ (|={Set.univ}=> zeros c k a : sProp 𝕄) := by
  have e := close_dma (K := K) c k a R h all7
  rw [← univ7, ← univ7] at e
  exact e

/-- What is there at the return: every counter at zero and the buffers back. -/
def talkOut : sProp 𝕄 :=
  iprop(semVal (bCell k c) 0 ∗ (zeros c k 0 ∗ zeros c k 1 ∗ zeros c k 2 ∗ zeros c k 3)
    ∗ (∃ X, owns (c : Thread nD τ) (xM k) fullShare X) ∗ (∃ Y, owns (c : Thread nD τ) (rM k) fullShare Y) ∗ owesE c D)

/-! ## The all-gather half -/

theorem tail_run (hk : k ≠ 2) (hx) (arg1 : Memref sig .tc .vmem S64x2048 .f32) (hD : Above (3 * k.val + 3) D) (Z : S64x2048.Idx → Elt F .f32) (Q : PUnit → sProp 𝕄) :
    iprop(CtxP pv K ∗ openR c k ∗ tailIn c k ∗ headOut c k pv ∗ owesE c (owe (agO k c) all7 + D) ∗ owns (c : Thread nD τ) arg0 fullShare (pv k c) ∗ owns (c : Thread nD τ) arg1 fullShare Z)
      ⊢ iprop(((talkOut c k D ∗ owns (c : Thread nD τ) arg0 fullShare (pv k c) ∗ owns (c : Thread nD τ) arg1 fullShare (outv pv k c)) -∗ Q ⟨⟩)
          -∗ WP c (sumP arg0 (rM k) c (tailP (xM k) hx (sD k) (rD k) arg1 c)) Q) := by
  unfold tailIn openR headOut
  rw [if_neg hk]
  iintro ⟨#HC, ⟨#R0, #R1, #R2, #R3⟩, ⟨⟨HT2, HT3⟩, ⟨HA2, HA3⟩, HC3⟩, ⟨Hab, ⟨HA0, HA1⟩, Hown, ⟨-, HP1⟩, HR3⟩, HO, Hp, Hz⟩ Hk
  ihave HP := (slots_of_pay c k hk) $$ HP1
  icases HP with ⟨Hs, HY⟩
  iapply (sum_run c k arg0 _ Q) $$ [Hp Hs]
  · isplitl [Hp] <;> iassumption
  iintro ⟨Hp, Hs⟩
  unfold tailP
  iapply (row_load c k _ (off2_eq c) _ _ _ _ Q) $$ Hown
  iintro Hown
  iapply (row_store c k _ (off2_eq c) _ _ _ _ _ _ Q) $$ Hown
  iintro Hown
  ihave Hown := (show owns (c : Thread nD τ) (rowM k c) fullShare (k1_pay6 (partv pv k c) (k1_pay4 (slv pv k c 5)) (slv pv k c 6))
      ⊢ bigSep Finset.univ fun i => owns (c : Thread nD τ) (rowM k c) (qs i) (rowv (gvOf pv k) c) from by
    rw [← (show rowv (gvOf pv k) c = k1_pay6 (partv pv k c) (k1_pay4 (slv pv k c 5)) (slv pv k c 6) from rowv_gath _ c)]
    exact (shares c (rowM k c) (rowv (gvOf pv k) c)).1) $$ Hown
  iapply (ag_phase (xv := xvOf pv) (gv := gvOf pv) (K := K) c k D _ hk hx _ _ all7 Q) $$ [Hown HY HT2 HT3 HR3 HO]
  · isplitr; · iexact HC
    isplitr [HO]
    · iapply (agIn_intro c k (gvOf pv))
      isplitl [Hown]; · iexact Hown
      isplitl [HY]; · iexact HY
      isplitl [HT2]; · iexact HT2
      isplitl [HT3]; · iexact HT3
      isplitr; · iexact R2
      iexact HR3
    · iexact HO
  iintro ⟨Hl, HO⟩
  ihave HC2 := (Entails.of_eq (univ7 (fun i => cred (tallyAt (dCell k i 2 c) () N))).symm) $$ Hl
  iapply (wait_phase (xv := xvOf pv) (gv := gvOf pv) (K := K) c k D _ 2 3 (.inl hk) (.inl hk) (n := 3 * k.val + 3) hD
    (fun i => by rw [lv_snd2]; omega) (fun i => by rw [lv_ag]) _ _
    (fun i => rowsOf (xM k) (k1_off3 c) (k1_off3_inb c)) (fun i => rowsOf (xM k) (k1_off3 c) (k1_off3_inb c))
    (fun i => rowsOf (xM k) (k1_off3 c) (k1_off3_inb c)) (fun i => rowsOf (xM k) (k1_off3 c) (k1_off3_inb c))
    (fun i => hx.wordExact_slice rfl _ (k1_off3_wordsbf16 c)) (fun i => hx.wordExact_slice rfl _ (k1_off3_wordsbf16 c))
    (fun i => hx.wordExact_slice rfl _ (k1_off3_wordsbf16 c)) (fun i => hx.wordExact_slice rfl _ (k1_off3_wordsbf16 c))
    (fun i => rfl) (fun i => rfl)
    (fun i => N_row k 0) (fun i => N_row k 0) all7 Q) $$ [HC2 HC3 HA2 HA3 HO]
  · isplitr; · iexact HC
    isplitr [HO]
    · iapply (waitIn_intro c k 2 3)
      isplitl [HC2]; · iexact HC2
      isplitl [HA2]; · iexact HA2
      isplitl [HC3] <;> iassumption
    · iexact HO
  iintro ⟨HO, Hl⟩
  ihave Hl' := (waitOut_elim c k (xvOf pv) (gvOf pv) 2 3) $$ Hl
  icases Hl' with ⟨HA2, HA3, HP2, HP3⟩
  ihave Hown := (show (bigSep Finset.univ fun i => dmaPay (xvOf pv) (gvOf pv) k i c 2) ⊢ owns (c : Thread nD τ) (rowM k c) fullShare (rowv (gvOf pv k) c)
    from (shares c (rowM k c) (rowv (gvOf pv k) c)).2) $$ HP2
  ihave Hx := (rows_join c k (gvOf pv k)) $$ [Hown HP3]
  · isplitl [Hown]; · iexact Hown
    iexact HP3
  iapply (load_all c (xM k) _ _ (gvOf pv k) Q) $$ Hx
  iintro Hx
  iapply (load_all c arg1 _ _ Z Q) $$ Hz
  iintro Hz
  iapply (store_all c arg1 _ _ _ _ Z Q) $$ Hz
  iintro Hz
  iapply (load_row c arg1 _ (off2_eq c) _ _ _ _ Q) $$ Hz
  iintro Hz
  iapply (store_row c arg1 _ (off2_eq c) _ _ _ _ _ _ Q) $$ Hz
  iintro Hz
  unfold WP
  rw [wp_ret]
  imod (close_bar (K := K) c k) $$ [Hab] with Hab
  · isplitr; · iexact HC
    iexact Hab
  imod (close_fam (K := K) c k 0 1 (fun i => duties_later _ _ _)) $$ [HA0] with HA0
  · isplitr; · iexact HC
    iexact HA0
  imod (close_fam (K := K) c k 1 1 (fun i => duties_later _ _ _)) $$ [HA1] with HA1
  · isplitr; · iexact HC
    iexact HA1
  imod (close_fam (K := K) c k 2 1 (fun i => duties_later _ _ _)) $$ [HA2] with HA2
  · isplitr; · iexact HC
    iexact HA2
  imod (close_fam (K := K) c k 3 1 (fun i => duties_later _ _ _)) $$ [HA3] with HA3
  · isplitr; · iexact HC
    iexact HA3
  imodintro
  iapply Hk
  unfold talkOut
  isplitr [Hp Hz]
  · isplitl [Hab]; · iexact Hab
    isplitl [HA0 HA1 HA2 HA3]
    · isplitl [HA0]; · iexact HA0
      isplitl [HA1]; · iexact HA1
      isplitl [HA2] <;> iassumption
    isplitl [Hx]; · iexists _; iexact Hx
    isplitl [Hs]
    · iexists _
      iapply (slots_join c k (slv pv k c)) $$ Hs
    · iexact HO
  · isplitl [Hp]; · iexact Hp
    iexact Hz

/-! ## The last call's end -/

theorem end_run (hk : k = 2) (arg1 : Memref sig .tc .vmem S8x2048 .f32) (Z : S8x2048.Idx → Elt F .f32) (Q : PUnit → sProp 𝕄) :
    iprop(CtxP pv K ∗ tailIn c k ∗ headOut c k pv ∗ owesE c (owe (agO k c) all7 + D) ∗ owns (c : Thread nD τ) arg0 fullShare (pv k c) ∗ owns (c : Thread nD τ) arg1 fullShare Z)
      ⊢ iprop(((talkOut c k D ∗ owns (c : Thread nD τ) arg0 fullShare (pv k c) ∗ owns (c : Thread nD τ) arg1 fullShare (sumv pv k c)) -∗ Q ⟨⟩)
          -∗ WP c (sumP arg0 (rM k) c (endP arg1)) Q) := by
  have hu (a : Fin 4) (ha : a = 2 ∨ a = 3) : ¬ Used k a := by subst hk; revert a; decide
  unfold tailIn headOut
  iintro ⟨#HC, ⟨-, ⟨HA2, HA3⟩, -⟩, ⟨Hab, ⟨HA0, HA1⟩, Hown, ⟨HP0, HP1⟩, -⟩, HO, Hp, Hz⟩ Hk
  ihave Hs := (slots_of_pay2 c k hk) $$ HP1
  iapply (sum_run c k arg0 _ Q) $$ [Hp Hs]
  · isplitl [Hp] <;> iassumption
  iintro ⟨Hp, Hs⟩
  unfold endP
  iapply (load_owns c arg1 _ _ _ Z Q) $$ Hz
  iintro Hz
  iapply (store_end c arg1 _ _ _ _ Z Q) $$ Hz
  iintro Hz
  ihave Hx := (rows_join c k (xvOf pv k c)) $$ [Hown HP0]
  · isplitl [Hown]; · iexact Hown
    iapply (show (bigSep Finset.univ fun i => dmaPay (xvOf pv) (gvOf pv) k i c 0) ⊢ bigSep Finset.univ fun i => owns (c : Thread nD τ) (rowM k (peer i c)) fullShare (rowv (xvOf pv k c) (peer i c))
      from bigSep_mono fun i _ => by unfold dmaPay; dsimp only; rw [if_pos hk]; exact fun _ h => h) $$ HP0
  unfold WP
  rw [wp_ret]
  imod (close_bar (K := K) c k) $$ [Hab] with Hab
  · isplitr; · iexact HC
    iexact Hab
  imod (close_fam (K := K) c k 0 1 (fun i => duties_later _ _ _)) $$ [HA0] with HA0
  · isplitr; · iexact HC
    iexact HA0
  imod (close_fam (K := K) c k 1 1 (fun i => duties_later _ _ _)) $$ [HA1] with HA1
  · isplitr; · iexact HC
    iexact HA1
  imod (close_fam (K := K) c k 2 0 (fun i r _ => duties_unused _ _ k i 2 c (hu 2 (.inl rfl)) r)) $$ [HA2] with HA2
  · isplitr; · iexact HC
    iexact HA2
  imod (close_fam (K := K) c k 3 0 (fun i r _ => duties_unused _ _ k i 3 c (hu 3 (.inr rfl)) r)) $$ [HA3] with HA3
  · isplitr; · iexact HC
    iexact HA3
  imodintro
  iapply Hk
  unfold talkOut
  isplitr [Hp Hz]
  · isplitl [Hab]; · iexact Hab
    isplitl [HA0 HA1 HA2 HA3]
    · isplitl [HA0]; · iexact HA0
      isplitl [HA1]; · iexact HA1
      isplitl [HA2] <;> iassumption
    isplitl [Hx]; · iexists _; iexact Hx
    isplitl [Hs]
    · iexists _
      iapply (slots_join c k (slv pv k c)) $$ Hs
    · rw [agO_none c k hk D]
      iexact HO
  · isplitl [Hp]; · iexact Hp
    iexact Hz

end Cert.KernelIdeal.Hand

end
-- ==== Proof.Call.lean ====
/- A talking call on one device from its first to its last operation. -/
module

public import proofs.«01_k».proof.Proof.Talk

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable {pv : Fin 3 → Dev nD → S64x2048.Idx → Elt F .f32} {K : GSem nD τ sig → ℕ} (c : Dev nD) (k : Fin 3)
  (arg0 : Memref sig .tc .vmem S64x2048 .f32) (D : CellTallies nD τ sig Unit) [∀ e, Nonempty (Elt F e)]

/-- What a talking call starts from. -/
def callIn (pv : Fin 3 → Dev nD → S64x2048.Idx → Elt F .f32) (K : GSem nD τ sig → ℕ) : sProp 𝕄 :=
  iprop(CtxP pv K ∗ openR c k ∗ headIn c k ∗ tailIn c k)
/-- Its scratch memory, with any contents. -/
def anyXR : sProp 𝕄 := iprop((∃ X, owns (c : Thread nD τ) (xM k) fullShare X) ∗ ∃ Y, owns (c : Thread nD τ) (rM k) fullShare Y)

theorem ar_run (hk : k ≠ 2) (hD : Above (3 * k.val + 3) D) (hx hr) (arg1 : Memref sig .tc .vmem S64x2048 .f32) (Z : S64x2048.Idx → Elt F .f32) (Q : PUnit → sProp 𝕄) :
    iprop(callIn c k pv K ∗ anyXR c k ∗ owns (c : Thread nD τ) arg0 fullShare (pv k c) ∗ owns (c : Thread nD τ) arg1 fullShare Z ∗ owesE c (callO k c + D))
      ⊢ iprop(((talkOut c k D ∗ owns (c : Thread nD τ) arg0 fullShare (pv k c) ∗ owns (c : Thread nD τ) arg1 fullShare (outv pv k c)) -∗ Q ⟨⟩)
        -∗ WP c (arBody (bS k) arg0 (xM k) hx (rM k) hr (sD k) (rD k) arg1) Q) := by
  unfold arBody WP callIn anyXR
  rw [wp_deviceId]
  iintro ⟨⟨#HC, #HR, HH, HT⟩, ⟨HX, HY⟩, Ha, Hz, HO⟩ Hk
  iapply (head_run c k arg0 D hD hx hr _ Q) $$ [HH HX HY Ha HO]
  · isplitr; · iexact HC
    isplitr; · iexact HR
    isplitl [HH]; · iexact HH
    isplitl [Ha]; · iexact Ha
    isplitl [HX]; · iexact HX
    isplitl [HY]; · iexact HY
    iexact HO
  iintro ⟨HH, Ha, HO⟩
  iapply (tail_run (K := K) c k arg0 D hk hx arg1 hD Z Q) $$ [HH HT Ha Hz HO]
  · isplitr; · iexact HC
    isplitr; · iexact HR
    isplitl [HT]; · iexact HT
    isplitl [HH]; · iexact HH
    isplitl [HO]; · iexact HO
    isplitl [Ha]; · iexact Ha
    iexact Hz
  iexact Hk

theorem rs_run (hk : k = 2) (hD : Above (3 * k.val + 3) D) (hx hr) (arg1 : Memref sig .tc .vmem S8x2048 .f32) (Z : S8x2048.Idx → Elt F .f32) (Q : PUnit → sProp 𝕄) :
    iprop(callIn c k pv K ∗ anyXR c k ∗ owns (c : Thread nD τ) arg0 fullShare (pv k c) ∗ owns (c : Thread nD τ) arg1 fullShare Z ∗ owesE c (callO k c + D))
      ⊢ iprop(((talkOut c k D ∗ owns (c : Thread nD τ) arg0 fullShare (pv k c) ∗ owns (c : Thread nD τ) arg1 fullShare (sumv pv k c)) -∗ Q ⟨⟩)
        -∗ WP c (rsBody (bS k) arg0 (xM k) hx (rM k) hr (sD k) (rD k) arg1) Q) := by
  unfold rsBody WP callIn anyXR
  rw [wp_deviceId]
  iintro ⟨⟨#HC, #HR, HH, HT⟩, ⟨HX, HY⟩, Ha, Hz, HO⟩ Hk
  iapply (head_run c k arg0 D hD hx hr _ Q) $$ [HH HX HY Ha HO]
  · isplitr; · iexact HC
    isplitr; · iexact HR
    isplitl [HH]; · iexact HH
    isplitl [Ha]; · iexact Ha
    isplitl [HX]; · iexact HX
    isplitl [HY]; · iexact HY
    iexact HO
  iintro ⟨HH, Ha, HO⟩
  iapply (end_run (K := K) c k arg0 D hk arg1 Z Q) $$ [HH HT Ha Hz HO]
  · isplitr; · iexact HC
    isplitl [HT]; · iexact HT
    isplitl [HH]; · iexact HH
    isplitl [HO]; · iexact HO
    isplitl [Ha]; · iexact Ha
    iexact Hz
  iexact Hk

end Cert.KernelIdeal.Hand

end
-- ==== Proof.Open.lean ====
/- Opening a talking call's own cells. -/
module

public import proofs.«01_k».proof.Proof.Call

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

/-! ## Families of cells -/

theorem bigSep_4 (Φ : Fin 4 → sProp 𝕄) : bigSep Finset.univ Φ = iprop(Φ 0 ∗ Φ 1 ∗ Φ 2 ∗ Φ 3) := by
  rw [bigSep_univ_eq_bigSepL [0, 1, 2, 3] (by decide) (by decide) Φ]; rfl
theorem bigSep_3 (Φ : Fin 3 → sProp 𝕄) : bigSep Finset.univ Φ = iprop(Φ 0 ∗ Φ 1 ∗ Φ 2) := by
  rw [bigSep_univ_eq_bigSepL [0, 1, 2] (by decide) (by decide) Φ]; rfl
theorem bigSep_47 (Φ : Fin 4 → Fin 7 → sProp 𝕄) :
    (bigSep Finset.univ fun x : Fin 4 × Fin 7 => Φ x.1 x.2) = iprop((bigSep Finset.univ (Φ 0)) ∗ (bigSep Finset.univ (Φ 1)) ∗ (bigSep Finset.univ (Φ 2)) ∗ bigSep Finset.univ (Φ 3)) := by
  rw [BI.bigSep_univ_prod, bigSep_4]

variable {pv : Fin 3 → Dev nD → S64x2048.Idx → Elt F .f32} {K : GSem nD τ sig → ℕ} (c : Dev nD) (k : Fin 3)

/-- What device `c` holds for call `k` from the launch on: its position on the barrier cell, the duties it discharges, the right to
    open its own cells, and the credits of its waits. -/
def lin : sProp 𝕄 :=
  iprop((atPos ER (bCell k c) 0 ∅ 0 ∗ cred (tallyAt (bCell k c) () 7))
    ∗ (bigSep Finset.univ fun i => dutyTok ER (bCell k (peer i c)) 0 i)
    ∗ ((bigSep Finset.univ fun i => dutyTok ER (dCell k i 0 c) 0 0) ∗ (bigSep Finset.univ fun i => dutyTok ER (dCell k i 1 (peer i c)) 0 0)
      ∗ (bigSep Finset.univ fun i => dutyTok ER (dCell k i 2 c) 0 0) ∗ bigSep Finset.univ fun i => dutyTok ER (dCell k i 3 (peer i c)) 0 0)
    ∗ (bigSep Finset.univ fun x : Fin 4 × Fin 7 => openTok ER (dCell k x.2 x.1 c))
    ∗ (bigSep Finset.univ fun i => cred (tallyAt (dCell k i 1 c) () N)) ∗ bigSep Finset.univ fun i => cred (tallyAt (dCell k i 3 c) () (if k = 2 then 0 else N)))

/-- The semaphores of a talking call, as one family. -/
abbrev osem (k : Fin 3) (x : Fin 4 × Fin 7) : SemLoc sig := .dma (dS k x.2 x.1)

theorem open_one (x : Fin 4 × Fin 7) :
    iprop(CtxP pv K ∗ openTok ER (dCell k x.2 x.1 c) ∗ semVal (dCell k x.2 x.1 c) 0)
      ⊢ (|={Set.univ}=> iprop(atPos ER (dCell k x.2 x.1 c) 0 ∅ 0 ∗ reached ER (dCell k x.2 x.1 c) 0) : sProp 𝕄) := by
  iintro ⟨#HC, Ho, Hs⟩
  ihave #HI := (ctx_dma k x.2 x.1 c) $$ HC
  imod (Rounds.cell_open ER (talkRd (xvOf pv) (gvOf pv)) (g := dCell k x.2 x.1 c) (Set.mem_univ (K (dCell k x.2 x.1 c)))) $$ [Ho Hs] with ⟨Ha, Hr⟩
  · isplitr; · iexact HI
    isplitl [Ho] <;> iassumption
  imodintro
  isplitl [Ha] <;> iassumption

theorem open_all :
    iprop(CtxP pv K ∗ (bigSep Finset.univ fun x : Fin 4 × Fin 7 => openTok ER (dCell k x.2 x.1 c)) ∗ bigSep Finset.univ fun x : Fin 4 × Fin 7 => semVal (dCell k x.2 x.1 c) 0)
      ⊢ (|={Set.univ}=> iprop((bigSep Finset.univ fun x : Fin 4 × Fin 7 => atPos ER (dCell k x.2 x.1 c) 0 ∅ 0)
        ∗ bigSep Finset.univ fun x : Fin 4 × Fin 7 => reached ER (dCell k x.2 x.1 c) 0) : sProp 𝕄) := by
  rw [← bigSep_sep', ← bigSep_sep']
  refine (BI.bigSep_with_persistent (R := CtxP pv K) (Φ := fun x : Fin 4 × Fin 7 => iprop(openTok ER (dCell k x.2 x.1 c) ∗ semVal (dCell k x.2 x.1 c) 0)) fun x _ => open_one c k x).trans ?_
  exact bigSep_fupd _ _

theorem call_open :
    iprop(CtxP pv K ∗ lin c k ∗ bigSep Finset.univ fun x : Fin 4 × Fin 7 => semVal ((c : Thread nD τ), osem k x) 0)
      ⊢ (|={Set.univ}=> callIn c k pv K : sProp 𝕄) := by
  unfold lin
  iintro ⟨#HC, ⟨Hb, HD, ⟨HT0, HT1, HT2, HT3⟩, HO, HC1, HC3⟩, HS⟩
  imod (open_all (pv := pv) (K := K) c k) $$ [HO HS] with ⟨HA, HR⟩
  · isplitr; · iexact HC
    isplitl [HO] <;> iassumption
  ihave HA := (Entails.of_eq (bigSep_47 fun a i => atPos ER (dCell k i a c) 0 ∅ 0)) $$ HA
  ihave HR := (Entails.of_eq (bigSep_47 fun a i => reached ER (dCell k i a c) 0)) $$ HR
  icases HA with ⟨HA0, HA1, HA2, HA3⟩
  icases HR with ⟨HR0, HR1, HR2, HR3⟩
  imodintro
  unfold callIn openR headIn tailIn
  isplitr; · iexact HC
  isplitl [HR0 HR1 HR2 HR3]
  · isplitl [HR0]; · iexact HR0
    isplitl [HR1]; · iexact HR1
    isplitl [HR2] <;> iassumption
  isplitl [Hb HD HT0 HT1 HA0 HA1 HC1]
  · isplitl [Hb]; · iexact Hb
    isplitl [HD]; · iexact HD
    isplitl [HT0 HT1]; · isplitl [HT0] <;> iassumption
    isplitl [HA0 HA1]; · isplitl [HA0] <;> iassumption
    iexact HC1
  isplitl [HT2 HT3]; · isplitl [HT2] <;> iassumption
  isplitl [HA2 HA3]; · isplitl [HA2] <;> iassumption
  iexact HC3

/-- The call's own counters at zero, as one family and as four. -/
theorem zeros_all : (bigSep Finset.univ fun x : Fin 4 × Fin 7 => (semVal ((c : Thread nD τ), osem k x) 0 : sProp 𝕄))
    = iprop(zeros c k 0 ∗ zeros c k 1 ∗ zeros c k 2 ∗ zeros c k 3) := bigSep_47 fun a i => semVal (dCell k i a c) 0

end Cert.KernelIdeal.Hand

end
-- ==== Proof.Layer.lean ====
/- A layer call on one device at one grid point, and what its eight points compute. -/
module

public import proofs.«01_k».proof.Proof.Talk
public import proofs.«01_k».proof.Proof.Gen.KernelIdeal.Points

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-! ## The contents -/

theorem inbC (n : Fin 8) : ∀ a, (![0, 512 * n.val] : Fin 2 → Nat) a + S2048x512.size a ≤ S2048x4096.size a := by revert n; decide
theorem inbR (n : Fin 8) : ∀ a, (![512 * n.val, 0] : Fin 2 → Nat) a + S512x2048.size a ≤ S4096x2048.size a := by revert n; decide
/-- Columns `512 n … 512 n + 511` of the first matrix, and the same rows of the second. -/
abbrev rCol (n : Fin 8) : Rect S2048x4096 := Rect.unit (s := S2048x4096) ![0, 512 * n.val] S2048x512.size (inbC n)
abbrev rBlk (n : Fin 8) : Rect S4096x2048 := Rect.unit (s := S4096x2048) ![512 * n.val, 0] S512x2048.size (inbR n)
abbrev colv {α : Type} (w : S2048x4096.Idx → α) (n : Fin 8) : S2048x512.Idx → α := fun j => w ((rCol n).emb j)
abbrev blkv {α : Type} (w : S4096x2048.Idx → α) (n : Fin 8) : S512x2048.Idx → α := fun j => w ((rBlk n).emb j)

/-- The accumulator after `n` points. -/
def accv (x : S64x2048.Idx → Elt F .f32) (wi : S2048x4096.Idx → Elt F .f32) (wo : S4096x2048.Idx → Elt F .f32) : ℕ → S64x2048.Idx → Elt F .f32
  | 0 => k0_pay1
  | n + 1 => k0_pay2 x (colv wi (Fin.ofNat 8 n)) (accv x wi wo n) (blkv wo (Fin.ofNat 8 n))
/-- The result of a layer call. -/
def layv (x : S64x2048.Idx → Elt F .f32) (wi : S2048x4096.Idx → Elt F .f32) (wo : S4096x2048.Idx → Elt F .f32) : S64x2048.Idx → Elt F .f32 := accv x wi wo 8

/-! ## One point -/

theorem first_iff : ∀ i : grid0.Coords, Scalar.cmpi .ne (Scalar.extui (Scalar.cmpi .eq (BitVec.ofNat 32 (i 0).val) 0#32) : BitVec 32) 0#32 = 1#1 ↔ (i 0).val = 0 := by decide
theorem last_iff : ∀ i : grid0.Coords, k0_cond2 i = 1#1 ↔ (i 0).val = 7 := by decide

variable (c : Dev nD) [∀ e, Nonempty (Elt F e)]

/-- A load of everything. -/
theorem load_in {e : EltTy} (m : Memref sig .tc .vmem S2048x512 e) (hl) (p : (S2048x512.Idx → Elt F e) → TProg F) (X : S2048x512.Idx → Elt F e) (Q : PUnit → sProp 𝕄) :
    owns (c : Thread nD τ) m fullShare X
      ⊢ iprop((owns (c : Thread nD τ) m fullShare X -∗ WP c (p X) Q)
        -∗ WP c (.op (.load m (Rect.unit (s := S2048x512) ![0, 0] S2048x512.size inb_S2048x512_S2048x512_0_0).toLoadRect hl) p) Q) := by
  have h := load_owns (q := fullShare) c m (Rect.unit (s := S2048x512) ![0, 0] S2048x512.size inb_S2048x512_S2048x512_0_0) hl p X Q
  rwa [show (fun j => X ((Rect.unit (s := S2048x512) ![0, 0] S2048x512.size inb_S2048x512_S2048x512_0_0).emb j)) = X from
    funext fun j => congrArg X (Rect.emb_unit_full (s := S2048x512) (off := ![0, 0]) inb_S2048x512_S2048x512_0_0 j)] at h
theorem load_out {e : EltTy} (m : Memref sig .tc .vmem S512x2048 e) (hl) (p : (S512x2048.Idx → Elt F e) → TProg F) (X : S512x2048.Idx → Elt F e) (Q : PUnit → sProp 𝕄) :
    owns (c : Thread nD τ) m fullShare X
      ⊢ iprop((owns (c : Thread nD τ) m fullShare X -∗ WP c (p X) Q)
        -∗ WP c (.op (.load m (Rect.unit (s := S512x2048) ![0, 0] S512x2048.size inb_S512x2048_S512x2048_0_0).toLoadRect hl) p) Q) := by
  have h := load_owns (q := fullShare) c m (Rect.unit (s := S512x2048) ![0, 0] S512x2048.size inb_S512x2048_S512x2048_0_0) hl p X Q
  rwa [show (fun j => X ((Rect.unit (s := S512x2048) ![0, 0] S512x2048.size inb_S512x2048_S512x2048_0_0).emb j)) = X from
    funext fun j => congrArg X (Rect.emb_unit_full (s := S512x2048) (off := ![0, 0]) inb_S512x2048_S512x2048_0_0 j)] at h

variable (arg1 : Memref sig .tc .vmem S64x2048 .f32) (arg2 : Memref sig .tc .vmem S2048x512 .f32) (arg3 : Memref sig .tc .vmem S512x2048 .f32)
  (arg4 arg5 : Memref sig .tc .vmem S64x2048 .f32)

/-- The last part of a point: the accumulator goes to the output at the last point. -/
def lastP (i : grid0.Coords) : TProg F :=
  if _h : k0_cond2 i = 1#1 then
    .op (.load arg5 rAll.toLoadRect (View.loadsAt_vmem h_S64x2048)) fun v21 =>
    .op (.load arg4 rAll.toLoadRect (View.loadsAt_vmem h_S64x2048)) fun _ =>
    .op (.store arg4 rAll v21 Finset.univ (View.stores_vmem_bits_univ h_S64x2048 rfl) (.inl rfl)) fun _ => .ret ⟨⟩
  else .ret ⟨⟩
/-- The middle part: one chunk is added. -/
def addP (i : grid0.Coords) : TProg F :=
  .op (.load arg1 rAll.toLoadRect (View.loadsAt_vmem h_S64x2048)) fun v3 =>
  .op (.load arg2 (Rect.unit (s := S2048x512) ![0, 0] S2048x512.size inb_S2048x512_S2048x512_0_0).toLoadRect (View.loadsAt_vmem h_S2048x512)) fun v5 =>
  .op (.load arg5 rAll.toLoadRect (View.loadsAt_vmem h_S64x2048)) fun v10 =>
  .op (.load arg3 (Rect.unit (s := S512x2048) ![0, 0] S512x2048.size inb_S512x2048_S512x2048_0_0).toLoadRect (View.loadsAt_vmem h_S512x2048)) fun v11 =>
  .op (.load arg5 rAll.toLoadRect (View.loadsAt_vmem h_S64x2048)) fun _ =>
  .op (.store arg5 rAll (k0_pay2 v3 v5 v10 v11) Finset.univ (View.stores_vmem_bits_univ h_S64x2048 rfl) (.inl rfl)) fun _ => lastP arg4 arg5 i
/-- The first part: the accumulator is cleared at the first point. -/
def layP (i : grid0.Coords) : TProg F :=
  if _h : Scalar.cmpi .ne (Scalar.extui (Scalar.cmpi .eq (BitVec.ofNat 32 (i 0).val) 0#32) : BitVec 32) 0#32 = 1#1 then
    .op (.load arg5 rAll.toLoadRect (View.loadsAt_vmem h_S64x2048)) fun _ =>
    .op (.store arg5 rAll (k0_pay1 (F := F)) Finset.univ (View.stores_vmem_bits_univ h_S64x2048 rfl) (.inl rfl)) fun _ => addP arg1 arg2 arg3 arg4 arg5 i
  else addP arg1 arg2 arg3 arg4 arg5 i

theorem cc0_eq (i : grid0.Coords) (h1 h2 h3 h4 h5) : cc0__layer_body (F := F) i arg1 h1 arg2 h2 arg3 h3 arg4 h4 arg5 h5 = layP arg1 arg2 arg3 arg4 arg5 i := by
  rw [cc0__layer_body_eq_skeleton]
  unfold cc0__layer_body_skel layP addP lastP
  dsimp only
  split <;> simp only [Prog.bind_lift, pure_bind, Prog.bind_ret] <;> rfl
set_option maxRecDepth 65536 in
theorem cc2_eq (i : grid2.Coords) (h1 h2 h3 h4 h5) : cc2__layer_body (F := F) i arg1 h1 arg2 h2 arg3 h3 arg4 h4 arg5 h5 = layP arg1 arg2 arg3 arg4 arg5 i :=
  (show cc2__layer_body (F := F) i arg1 h1 arg2 h2 arg3 h3 arg4 h4 arg5 h5 = cc0__layer_body (F := F) i arg1 h1 arg2 h2 arg3 h3 arg4 h4 arg5 h5 from rfl).trans (cc0_eq ..)
set_option maxRecDepth 65536 in
theorem cc4_eq (i : grid4.Coords) (h1 h2 h3 h4 h5) : cc4__layer_body (F := F) i arg1 h1 arg2 h2 arg3 h3 arg4 h4 arg5 h5 = layP arg1 arg2 arg3 arg4 arg5 i :=
  (show cc4__layer_body (F := F) i arg1 h1 arg2 h2 arg3 h3 arg4 h4 arg5 h5 = cc0__layer_body (F := F) i arg1 h1 arg2 h2 arg3 h3 arg4 h4 arg5 h5 from rfl).trans (cc0_eq ..)

variable (x : S64x2048.Idx → Elt F .f32) (wi : S2048x4096.Idx → Elt F .f32) (wo : S4096x2048.Idx → Elt F .f32)

theorem last_run (i : grid0.Coords) (Z : S64x2048.Idx → Elt F .f32) (Q : PUnit → sProp 𝕄) :
    iprop(owns (c : Thread nD τ) arg4 fullShare Z ∗ owns (c : Thread nD τ) arg5 fullShare (accv x wi wo ((i 0).val + 1)))
      ⊢ iprop(((owns (c : Thread nD τ) arg4 fullShare (if (i 0).val = 7 then layv x wi wo else Z) ∗ owns (c : Thread nD τ) arg5 fullShare (accv x wi wo ((i 0).val + 1))) -∗ Q ⟨⟩)
        -∗ WP c (lastP arg4 arg5 i) Q) := by
  unfold lastP
  iintro ⟨H4, H5⟩ Hk
  by_cases hl : (i 0).val = 7
  · rw [dif_pos ((last_iff i).mpr hl), if_pos hl, hl]
    iapply load_all c arg5 $$ H5
    iintro H5
    iapply load_all c arg4 $$ H4
    iintro H4
    iapply store_all c arg4 $$ H4
    iintro H4
    unfold WP
    rw [wp_ret]
    imodintro
    iapply Hk
    isplitl [H4]
    · iexact H4
    · iexact H5
  · rw [dif_neg (fun h => hl ((last_iff i).mp h)), if_neg hl]
    unfold WP
    rw [wp_ret]
    imodintro
    iapply Hk
    isplitl [H4]
    · iexact H4
    · iexact H5

theorem add_run (i : grid0.Coords) (Z : S64x2048.Idx → Elt F .f32) (Q : PUnit → sProp 𝕄) :
    iprop(owns (c : Thread nD τ) arg1 fullShare x ∗ owns (c : Thread nD τ) arg2 fullShare (colv wi (i 0)) ∗ owns (c : Thread nD τ) arg3 fullShare (blkv wo (i 0))
        ∗ owns (c : Thread nD τ) arg4 fullShare Z ∗ owns (c : Thread nD τ) arg5 fullShare (accv x wi wo (i 0).val))
      ⊢ iprop(((owns (c : Thread nD τ) arg1 fullShare x ∗ owns (c : Thread nD τ) arg2 fullShare (colv wi (i 0)) ∗ owns (c : Thread nD τ) arg3 fullShare (blkv wo (i 0))
        ∗ owns (c : Thread nD τ) arg4 fullShare (if (i 0).val = 7 then layv x wi wo else Z) ∗ owns (c : Thread nD τ) arg5 fullShare (accv x wi wo ((i 0).val + 1))) -∗ Q ⟨⟩)
        -∗ WP c (addP arg1 arg2 arg3 arg4 arg5 i) Q) := by
  have hi : Fin.ofNat 8 (i 0).val = i 0 := Fin.ext (Nat.mod_eq_of_lt (i 0).isLt)
  have hacc : k0_pay2 x (colv wi (i 0)) (accv x wi wo (i 0).val) (blkv wo (i 0)) = accv x wi wo ((i 0).val + 1) := by
    show _ = k0_pay2 x (colv wi (Fin.ofNat 8 (i 0).val)) (accv x wi wo (i 0).val) (blkv wo (Fin.ofNat 8 (i 0).val))
    rw [hi]
  unfold addP
  iintro ⟨H1, H2, H3, H4, H5⟩ Hk
  iapply load_all c arg1 $$ H1
  iintro H1
  iapply load_in c arg2 $$ H2
  iintro H2
  iapply load_all c arg5 $$ H5
  iintro H5
  iapply load_out c arg3 $$ H3
  iintro H3
  iapply load_all c arg5 $$ H5
  iintro H5
  iapply store_all c arg5 $$ H5
  rw [hacc]
  iintro H5
  iapply last_run c arg4 arg5 x wi wo i Z Q $$ [H4 H5]
  · isplitl [H4]
    · iexact H4
    · iexact H5
  iintro ⟨H4, H5⟩
  iapply Hk
  isplitl [H1]; · iexact H1
  isplitl [H2]; · iexact H2
  isplitl [H3]; · iexact H3
  isplitl [H4]; · iexact H4
  iexact H5

theorem lay_run (i : grid0.Coords) (Z A : S64x2048.Idx → Elt F .f32) (hA : (i 0).val ≠ 0 → A = accv x wi wo (i 0).val) (Q : PUnit → sProp 𝕄) :
    iprop(owns (c : Thread nD τ) arg1 fullShare x ∗ owns (c : Thread nD τ) arg2 fullShare (colv wi (i 0)) ∗ owns (c : Thread nD τ) arg3 fullShare (blkv wo (i 0))
        ∗ owns (c : Thread nD τ) arg4 fullShare Z ∗ owns (c : Thread nD τ) arg5 fullShare A)
      ⊢ iprop(((owns (c : Thread nD τ) arg1 fullShare x ∗ owns (c : Thread nD τ) arg2 fullShare (colv wi (i 0)) ∗ owns (c : Thread nD τ) arg3 fullShare (blkv wo (i 0))
        ∗ owns (c : Thread nD τ) arg4 fullShare (if (i 0).val = 7 then layv x wi wo else Z) ∗ owns (c : Thread nD τ) arg5 fullShare (accv x wi wo ((i 0).val + 1))) -∗ Q ⟨⟩)
        -∗ WP c (layP arg1 arg2 arg3 arg4 arg5 i) Q) := by
  by_cases hf : (i 0).val = 0
  · unfold layP
    rw [dif_pos ((first_iff i).mpr hf)]
    iintro ⟨H1, H2, H3, H4, H5⟩ Hk
    iapply load_all c arg5 $$ H5
    iintro H5
    iapply store_all c arg5 $$ H5
    rw [show (k0_pay1 (F := F)) = accv x wi wo (i 0).val from by rw [hf]; rfl]
    iintro H5
    iapply add_run c arg1 arg2 arg3 arg4 arg5 x wi wo i Z Q $$ [H1 H2 H3 H4 H5]
    · isplitl [H1]; · iexact H1
      isplitl [H2]; · iexact H2
      isplitl [H3]; · iexact H3
      isplitl [H4]; · iexact H4
      iexact H5
    · iexact Hk
  · unfold layP
    rw [dif_neg (fun h => hf ((first_iff i).mp h)), hA hf]
    exact add_run c arg1 arg2 arg3 arg4 arg5 x wi wo i Z Q

end Cert.KernelIdeal.Hand

end
-- ==== Proof.LayerCall.lean ====
/- The layer calls' proof data and body obligations. -/
module

public import proofs.«01_k».proof.Proof.Layer
public import proofs.«01_k».proof.Proof.Gen.KernelIdeal.Regions
public import Idealize.ShloMosaic.Lib.Pipeline.FrameBody
public import Idealize.ShloMosaic.Lib.Pipeline.ValueKit.Geometry

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

variable [∀ e, Nonempty (Elt F e)]

/-! ## What the three layer calls share -/

section Shared

variable (c : Dev nD) (scr : Memref sig .tc .vmem S64x2048 .f32) (rest : sProp (MT nD τ sig Unit (Elt F) ℕ UU ℕ))
  (x : S64x2048.Idx → Elt F .f32) (wi : S2048x4096.Idx → Elt F .f32) (wo : S4096x2048.Idx → Elt F .f32)

/-- Before point `n`: the accumulator at the sum of the first `n` chunks, at any contents before the first point. -/
def layInv (n : ℕ) : sProp 𝕄 := iprop((∃ A, ⌜n ≠ 0 → A = accv x wi wo n⌝ ∗ owns (c : Thread nD τ) scr fullShare A) ∗ rest)

/-- What the output's staging buffer is left at, by whether the point touches it. -/
theorem lay_body (i : grid0.Coords) (n : ℕ) (hn : (i 0).val = n) (arg1 : Memref sig .tc .vmem S64x2048 .f32) (arg2 : Memref sig .tc .vmem S2048x512 .f32) (arg3 : Memref sig .tc .vmem S512x2048 .f32)
    (arg4 : Memref sig .tc .vmem S64x2048 .f32) (B1 : (S64x2048.Idx → Elt F .f32) → S64x2048.Idx → Elt F .f32) (h1 : ∀ d, B1 d = x)
    (B2 : (S2048x512.Idx → Elt F .f32) → S2048x512.Idx → Elt F .f32) (h2 : ∀ d, B2 d = colv wi (i 0)) (B3 : (S512x2048.Idx → Elt F .f32) → S512x2048.Idx → Elt F .f32) (h3 : ∀ d, B3 d = blkv wo (i 0))
    (B : (S64x2048.Idx → Elt F .f32) → S64x2048.Idx → Elt F .f32) (O : sProp (MT nD τ sig Unit (Elt F) ℕ UU ℕ)) :
    iprop(layInv c scr rest x wi wo n ∗ O ∗ (∃ d, owns (c : Thread nD τ) arg1 fullShare (B1 d)) ∗ (∃ d, owns (c : Thread nD τ) arg2 fullShare (B2 d))
        ∗ (∃ d, owns (c : Thread nD τ) arg3 fullShare (B3 d)) ∗ ∃ d, owns (c : Thread nD τ) arg4 fullShare (B d))
      ⊢ WP c (layP arg1 arg2 arg3 arg4 scr i) fun _ =>
        iprop(layInv c scr rest x wi wo (n + 1) ∗ O ∗ owns (c : Thread nD τ) arg1 fullShare x ∗ owns (c : Thread nD τ) arg2 fullShare (colv wi (i 0)) ∗ owns (c : Thread nD τ) arg3 fullShare (blkv wo (i 0))
          ∗ if n = 7 then owns (c : Thread nD τ) arg4 fullShare (layv x wi wo) else iprop(∃ d, owns (c : Thread nD τ) arg4 fullShare (B d))) := by
  subst hn
  simp only [h1, h2, h3]
  unfold layInv
  iintro ⟨⟨⟨%A, %hA, H5⟩, Hr⟩, HO, ⟨%d1, H1⟩, ⟨%d2, H2⟩, ⟨%d3, H3⟩, ⟨%d, H4⟩⟩
  iapply (lay_run c arg1 arg2 arg3 arg4 scr x wi wo i (B d) A hA _) $$ [H1 H2 H3 H4 H5]
  · isplitl [H1]; · iexact H1
    isplitl [H2]; · iexact H2
    isplitl [H3]; · iexact H3
    isplitl [H4]; · iexact H4
    iexact H5
  iintro ⟨H1, H2, H3, H4, H5⟩
  isplitl [H5 Hr]
  · isplitl [H5]
    · iexists _
      isplitr
      · ipureintro; exact fun _ => rfl
      · iexact H5
    · iexact Hr
  isplitl [HO]; · iexact HO
  isplitl [H1]; · iexact H1
  isplitl [H2]; · iexact H2
  isplitl [H3]; · iexact H3
  by_cases h : (i 0).val = 7
  · rw [if_pos h, if_pos h]; iexact H4
  · rw [if_neg h, if_neg h]; iexists d; iexact H4

/-- A window idle but at the last point, and written back there only. -/
theorem out_post {a b : Bool} {n : ℕ} (ha : a = true ↔ n ≠ 7) (hb : b = true ↔ n = 7) (P Q : sProp 𝕄) :
    (if n = 7 then Q else P) = (match (generalizing := false) a with
      | true => match (generalizing := false) b with
        | false => P
        | true => Q
      | false => Q) := by
  by_cases h : n = 7
  · rw [if_pos h]
    have : a = false := by rw [← Bool.not_eq_true]; exact fun e => ha.mp e h
    subst this; rfl
  · rw [if_neg h]
    have e : a = true := ha.mpr h
    have e' : b = false := by rw [← Bool.not_eq_true]; exact fun e => h (hb.mp e)
    subst e; subst e'; rfl

theorem WP_congr {p p' : TProg F} (h : p = p') {P : sProp 𝕄} {Q : PUnit → sProp 𝕄} (H : P ⊢ WP c p Q) : P ⊢ WP c p' Q := h ▸ H

theorem scr_in : iprop((∃ f : S64x2048.Idx → Elt F .f32, owns (c : Thread nD τ) scr fullShare f) ∗ rest) ⊢ layInv c scr rest x wi wo 0 := by
  unfold layInv
  iintro ⟨⟨%f, H⟩, Hr⟩
  isplitl [H]
  · iexists f
    isplitr
    · ipureintro; exact fun h => absurd rfl h
    · iexact H
  · iexact Hr
theorem scr_out (n : ℕ) : layInv c scr rest x wi wo n ⊢ iprop((∃ f : S64x2048.Idx → Elt F .f32, owns (c : Thread nD τ) scr fullShare f) ∗ rest) := by
  unfold layInv
  iintro ⟨⟨%f, -, H⟩, Hr⟩
  isplitl [H]
  · iexists f; iexact H
  · iexact Hr

end Shared

/-! ## The first layer call -/

section Layer0

variable (V : Dev nD → Valuation τ sig (Elt F)) (c : Dev nD)

abbrev layX0 : S64x2048.Idx → Elt F .f32 := V c main_arg0
abbrev layI0 : S2048x4096.Idx → Elt F .f32 := V c main_arg1
abbrev layO0 : S4096x2048.Idx → Elt F .f32 := V c main_arg4

/-- Entered from the buffers at `V c`, owing `D c` throughout. -/
def dat0 (D : Dev nD → CellTallies nD τ sig Unit) (c : Dev nD) : Dat τ (Elt F) Unit ℕ UU ℕ cfg0 c where
  A w := V c (Proc.devRef .tc (Pipeline.arrRef spec0 w))
  after := fun (w : Fin 4) t => match w with
    | 0 => layX0 V c
    | 1 => colv (layI0 V c) (grid0.coords t 0)
    | 2 => blkv (layO0 V c) (grid0.coords t 0)
    | 3 => layv (layX0 V c) (layI0 V c) (layO0 V c)
  Φ t := layInv c (Memref.whole cc0_scratch0) (Pipeline.scopedRestBut spec0 c [cc0_scratch0]) (layX0 V c) (layI0 V c) (layO0 V c) t.val
  q _ := fullShare
  owed _ := D c

variable (D : Dev nD → CellTallies nD τ sig Unit)

theorem coords0_val (t : Fin grid0.N) : (grid0.coords t 0).val = t.val := by revert t; decide

theorem block0_0 (t : Fin cfg0.N) : (dat0 V D c).blockOf 0 t = layX0 V c := by
  funext y
  show (V c main_arg0 : S64x2048.Idx → Elt F .f32) (((cfg0.win 0).blk t).view.emb y) = V c main_arg0 y
  refine congrArg _ (funext fun a => Fin.ext ?_)
  blk_simp
  have h : ∀ (t : Fin grid0.N) (a : Fin 2), win0_0.index t a * win0_0.size a = 0 := by decide
  exact (congrArg (· + (y a).val) (h t a)).trans (Nat.zero_add _)
theorem block0_1 (t : Fin cfg0.N) : (dat0 V D c).blockOf 1 t = colv (layI0 V c) (grid0.coords t 0) := by
  funext y
  refine congrArg (V c main_arg1 : S2048x4096.Idx → Elt F .f32) (funext fun a => Fin.ext ?_)
  show (((cfg0.win 1).blk t).view.emb y a).val = ((rCol (grid0.coords t 0)).emb y a).val
  blk_simp
  have h : ∀ (t : Fin grid0.N) (a : Fin 2), win0_1.index t a * win0_1.size a = (![0, 512 * (grid0.coords t 0).val] : Fin 2 → ℕ) a := by decide
  exact congrArg (· + (y a).val) (h t a)
theorem block0_2 (t : Fin cfg0.N) : (dat0 V D c).blockOf 2 t = blkv (layO0 V c) (grid0.coords t 0) := by
  funext y
  refine congrArg (V c main_arg4 : S4096x2048.Idx → Elt F .f32) (funext fun a => Fin.ext ?_)
  show (((cfg0.win 2).blk t).view.emb y a).val = ((rBlk (grid0.coords t 0)).emb y a).val
  blk_simp
  have h : ∀ (t : Fin grid0.N) (a : Fin 2), win0_2.index t a * win0_2.size a = (![512 * (grid0.coords t 0).val, 0] : Fin 2 → ℕ) a := by decide
  exact congrArg (· + (y a).val) (h t a)

theorem idle0_iff (t : Fin cfg0.N) : cfg0.idle 3 (cfg0.grid.coords t) = true ↔ t.val ≠ 7 := by revert t; decide
theorem flush0_iff (t : Fin cfg0.N) : (cfg0.win 3).flush t = true ↔ t.val = 7 := by
  rw [flush0_3 t]
  have : t.val < 8 := lt_of_lt_of_eq t.isLt N_0
  omega

theorem body0 : BodyObligation (dat0 V D c) defs₀ 𝒱₀ () Set.univ := fun t => by
  rw [bigSep_W0, bigSep_W0]
  have b0 : ∀ d, (dat0 V D c).before 0 t d = layX0 V c := fun d =>
    (Dat.before_in_eq_fetched (dat0 V D c) 0 rfl (fun _ => rfl) (fun _ _ _ => rfl) (fun s => (block0_0 V c D s).symm) t d).trans (block0_0 V c D t)
  have b1 : ∀ d, (dat0 V D c).before 1 t d = colv (layI0 V c) (grid0.coords t 0) := fun d =>
    ((dat0 V D c).before_fetched 1 t (fetch0_1 t) d).trans (block0_1 V c D t)
  have b2 : ∀ d, (dat0 V D c).before 2 t d = blkv (layO0 V c) (grid0.coords t 0) := fun d =>
    ((dat0 V D c).before_fetched 2 t (fetch0_2 t) d).trans (block0_2 V c D t)
  have h := lay_body c (Memref.whole cc0_scratch0) (Pipeline.scopedRestBut spec0 c [cc0_scratch0]) (layX0 V c) (layI0 V c) (layO0 V c) (grid0.coords t) t.val (coords0_val t)
    ((cfg0.win 0).stage (cfg0.slots t 0)) ((cfg0.win 1).stage (cfg0.slots t 1)) ((cfg0.win 2).stage (cfg0.slots t 2)) ((cfg0.win 3).stage (cfg0.slots t 3))
    ((dat0 V D c).before 0 t) b0 ((dat0 V D c).before 1 t) b1 ((dat0 V D c).before 2 t) b2 ((dat0 V D c).before 3 t) ((dat0 V D c).owesAt () t.castSucc)
  rw [out_post (idle0_iff t) (flush0_iff t)] at h
  exact WP_congr c (cc0_eq _ _ _ _ _ _ (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (Memref.isWhole_whole _)).symm h

theorem arr0_0 (w : Fin 4) : (dat0 V D c).arrAt w 0 = V c (Proc.devRef .tc (Pipeline.arrRef spec0 w)) := rfl
theorem arr0_out : (dat0 V D c).arrAt 3 cfg0.N = layv (layX0 V c) (layI0 V c) (layO0 V c) := by
  refine Dat.arrAt_eq_of_after_last (dat0 V D c) 3 t0_7 (by decide +kernel) (layv (layX0 V c) (layI0 V c) (layO0 V c)) (fun j => ?_)
  rfl

end Layer0

/-! ## The second layer call -/

section Layer2

variable (V : Dev nD → Valuation τ sig (Elt F)) (c : Dev nD)

abbrev layX2 : S64x2048.Idx → Elt F .f32 := V c main_v2
abbrev layI2 : S2048x4096.Idx → Elt F .f32 := V c main_arg2
abbrev layO2 : S4096x2048.Idx → Elt F .f32 := V c main_arg5

/-- Entered from the buffers at `V c`, owing `D c` throughout. -/
def dat2 (D : Dev nD → CellTallies nD τ sig Unit) (c : Dev nD) : Dat τ (Elt F) Unit ℕ UU ℕ cfg2 c where
  A w := V c (Proc.devRef .tc (Pipeline.arrRef spec2 w))
  after := fun (w : Fin 4) t => match w with
    | 0 => layX2 V c
    | 1 => colv (layI2 V c) (grid2.coords t 0)
    | 2 => blkv (layO2 V c) (grid2.coords t 0)
    | 3 => layv (layX2 V c) (layI2 V c) (layO2 V c)
  Φ t := layInv c (Memref.whole cc2_scratch0) (Pipeline.scopedRestBut spec2 c [cc2_scratch0]) (layX2 V c) (layI2 V c) (layO2 V c) t.val
  q _ := fullShare
  owed _ := D c

variable (D : Dev nD → CellTallies nD τ sig Unit)

theorem coords2_val (t : Fin grid2.N) : (grid2.coords t 0).val = t.val := by revert t; decide

theorem block2_0 (t : Fin cfg2.N) : (dat2 V D c).blockOf 0 t = layX2 V c := by
  funext y
  show (V c main_v2 : S64x2048.Idx → Elt F .f32) (((cfg2.win 0).blk t).view.emb y) = V c main_v2 y
  refine congrArg _ (funext fun a => Fin.ext ?_)
  blk_simp
  have h : ∀ (t : Fin grid2.N) (a : Fin 2), win2_0.index t a * win2_0.size a = 0 := by decide
  exact (congrArg (· + (y a).val) (h t a)).trans (Nat.zero_add _)
theorem block2_1 (t : Fin cfg2.N) : (dat2 V D c).blockOf 1 t = colv (layI2 V c) (grid2.coords t 0) := by
  funext y
  refine congrArg (V c main_arg2 : S2048x4096.Idx → Elt F .f32) (funext fun a => Fin.ext ?_)
  show (((cfg2.win 1).blk t).view.emb y a).val = ((rCol (grid2.coords t 0)).emb y a).val
  blk_simp
  have h : ∀ (t : Fin grid2.N) (a : Fin 2), win2_1.index t a * win2_1.size a = (![0, 512 * (grid2.coords t 0).val] : Fin 2 → ℕ) a := by decide
  exact congrArg (· + (y a).val) (h t a)
theorem block2_2 (t : Fin cfg2.N) : (dat2 V D c).blockOf 2 t = blkv (layO2 V c) (grid2.coords t 0) := by
  funext y
  refine congrArg (V c main_arg5 : S4096x2048.Idx → Elt F .f32) (funext fun a => Fin.ext ?_)
  show (((cfg2.win 2).blk t).view.emb y a).val = ((rBlk (grid2.coords t 0)).emb y a).val
  blk_simp
  have h : ∀ (t : Fin grid2.N) (a : Fin 2), win2_2.index t a * win2_2.size a = (![512 * (grid2.coords t 0).val, 0] : Fin 2 → ℕ) a := by decide
  exact congrArg (· + (y a).val) (h t a)

theorem idle2_iff (t : Fin cfg2.N) : cfg2.idle 3 (cfg2.grid.coords t) = true ↔ t.val ≠ 7 := by revert t; decide
theorem flush2_iff (t : Fin cfg2.N) : (cfg2.win 3).flush t = true ↔ t.val = 7 := by
  rw [flush2_3 t]
  have : t.val < 8 := lt_of_lt_of_eq t.isLt N_2
  omega

theorem body2 : BodyObligation (dat2 V D c) defs₀ 𝒱₀ () Set.univ := fun t => by
  rw [bigSep_W2, bigSep_W2]
  have b0 : ∀ d, (dat2 V D c).before 0 t d = layX2 V c := fun d =>
    (Dat.before_in_eq_fetched (dat2 V D c) 0 rfl (fun _ => rfl) (fun _ _ _ => rfl) (fun s => (block2_0 V c D s).symm) t d).trans (block2_0 V c D t)
  have b1 : ∀ d, (dat2 V D c).before 1 t d = colv (layI2 V c) (grid2.coords t 0) := fun d =>
    ((dat2 V D c).before_fetched 1 t (fetch2_1 t) d).trans (block2_1 V c D t)
  have b2 : ∀ d, (dat2 V D c).before 2 t d = blkv (layO2 V c) (grid2.coords t 0) := fun d =>
    ((dat2 V D c).before_fetched 2 t (fetch2_2 t) d).trans (block2_2 V c D t)
  have h := lay_body c (Memref.whole cc2_scratch0) (Pipeline.scopedRestBut spec2 c [cc2_scratch0]) (layX2 V c) (layI2 V c) (layO2 V c) (grid2.coords t) t.val (coords2_val t)
    ((cfg2.win 0).stage (cfg2.slots t 0)) ((cfg2.win 1).stage (cfg2.slots t 1)) ((cfg2.win 2).stage (cfg2.slots t 2)) ((cfg2.win 3).stage (cfg2.slots t 3))
    ((dat2 V D c).before 0 t) b0 ((dat2 V D c).before 1 t) b1 ((dat2 V D c).before 2 t) b2 ((dat2 V D c).before 3 t) ((dat2 V D c).owesAt () t.castSucc)
  rw [out_post (idle2_iff t) (flush2_iff t)] at h
  exact WP_congr c (cc2_eq _ _ _ _ _ _ (hstage2_0 ((cfg2.slots t 0).cast nbuf2_0)) (hstage2_1 ((cfg2.slots t 1).cast nbuf2_1)) (hstage2_2 ((cfg2.slots t 2).cast nbuf2_2)) (hstage2_3 ((cfg2.slots t 3).cast nbuf2_3)) (Memref.isWhole_whole _)).symm h

theorem arr2_0 (w : Fin 4) : (dat2 V D c).arrAt w 0 = V c (Proc.devRef .tc (Pipeline.arrRef spec2 w)) := rfl
theorem arr2_out : (dat2 V D c).arrAt 3 cfg2.N = layv (layX2 V c) (layI2 V c) (layO2 V c) := by
  refine Dat.arrAt_eq_of_after_last (dat2 V D c) 3 t2_7 (by decide +kernel) (layv (layX2 V c) (layI2 V c) (layO2 V c)) (fun j => ?_)
  rfl

end Layer2

/-! ## The third layer call -/

section Layer4

variable (V : Dev nD → Valuation τ sig (Elt F)) (c : Dev nD)

abbrev layX4 : S64x2048.Idx → Elt F .f32 := V c main_v4
abbrev layI4 : S2048x4096.Idx → Elt F .f32 := V c main_arg3
abbrev layO4 : S4096x2048.Idx → Elt F .f32 := V c main_arg6

/-- Entered from the buffers at `V c`, owing `D c` throughout. -/
def dat4 (D : Dev nD → CellTallies nD τ sig Unit) (c : Dev nD) : Dat τ (Elt F) Unit ℕ UU ℕ cfg4 c where
  A w := V c (Proc.devRef .tc (Pipeline.arrRef spec4 w))
  after := fun (w : Fin 4) t => match w with
    | 0 => layX4 V c
    | 1 => colv (layI4 V c) (grid4.coords t 0)
    | 2 => blkv (layO4 V c) (grid4.coords t 0)
    | 3 => layv (layX4 V c) (layI4 V c) (layO4 V c)
  Φ t := layInv c (Memref.whole cc4_scratch0) (Pipeline.scopedRestBut spec4 c [cc4_scratch0]) (layX4 V c) (layI4 V c) (layO4 V c) t.val
  q _ := fullShare
  owed _ := D c

variable (D : Dev nD → CellTallies nD τ sig Unit)

theorem coords4_val (t : Fin grid4.N) : (grid4.coords t 0).val = t.val := by revert t; decide

theorem block4_0 (t : Fin cfg4.N) : (dat4 V D c).blockOf 0 t = layX4 V c := by
  funext y
  show (V c main_v4 : S64x2048.Idx → Elt F .f32) (((cfg4.win 0).blk t).view.emb y) = V c main_v4 y
  refine congrArg _ (funext fun a => Fin.ext ?_)
  blk_simp
  have h : ∀ (t : Fin grid4.N) (a : Fin 2), win4_0.index t a * win4_0.size a = 0 := by decide
  exact (congrArg (· + (y a).val) (h t a)).trans (Nat.zero_add _)
theorem block4_1 (t : Fin cfg4.N) : (dat4 V D c).blockOf 1 t = colv (layI4 V c) (grid4.coords t 0) := by
  funext y
  refine congrArg (V c main_arg3 : S2048x4096.Idx → Elt F .f32) (funext fun a => Fin.ext ?_)
  show (((cfg4.win 1).blk t).view.emb y a).val = ((rCol (grid4.coords t 0)).emb y a).val
  blk_simp
  have h : ∀ (t : Fin grid4.N) (a : Fin 2), win4_1.index t a * win4_1.size a = (![0, 512 * (grid4.coords t 0).val] : Fin 2 → ℕ) a := by decide
  exact congrArg (· + (y a).val) (h t a)
theorem block4_2 (t : Fin cfg4.N) : (dat4 V D c).blockOf 2 t = blkv (layO4 V c) (grid4.coords t 0) := by
  funext y
  refine congrArg (V c main_arg6 : S4096x2048.Idx → Elt F .f32) (funext fun a => Fin.ext ?_)
  show (((cfg4.win 2).blk t).view.emb y a).val = ((rBlk (grid4.coords t 0)).emb y a).val
  blk_simp
  have h : ∀ (t : Fin grid4.N) (a : Fin 2), win4_2.index t a * win4_2.size a = (![512 * (grid4.coords t 0).val, 0] : Fin 2 → ℕ) a := by decide
  exact congrArg (· + (y a).val) (h t a)

theorem idle4_iff (t : Fin cfg4.N) : cfg4.idle 3 (cfg4.grid.coords t) = true ↔ t.val ≠ 7 := by revert t; decide
theorem flush4_iff (t : Fin cfg4.N) : (cfg4.win 3).flush t = true ↔ t.val = 7 := by
  rw [flush4_3 t]
  have : t.val < 8 := lt_of_lt_of_eq t.isLt N_4
  omega

theorem body4 : BodyObligation (dat4 V D c) defs₀ 𝒱₀ () Set.univ := fun t => by
  rw [bigSep_W4, bigSep_W4]
  have b0 : ∀ d, (dat4 V D c).before 0 t d = layX4 V c := fun d =>
    (Dat.before_in_eq_fetched (dat4 V D c) 0 rfl (fun _ => rfl) (fun _ _ _ => rfl) (fun s => (block4_0 V c D s).symm) t d).trans (block4_0 V c D t)
  have b1 : ∀ d, (dat4 V D c).before 1 t d = colv (layI4 V c) (grid4.coords t 0) := fun d =>
    ((dat4 V D c).before_fetched 1 t (fetch4_1 t) d).trans (block4_1 V c D t)
  have b2 : ∀ d, (dat4 V D c).before 2 t d = blkv (layO4 V c) (grid4.coords t 0) := fun d =>
    ((dat4 V D c).before_fetched 2 t (fetch4_2 t) d).trans (block4_2 V c D t)
  have h := lay_body c (Memref.whole cc4_scratch0) (Pipeline.scopedRestBut spec4 c [cc4_scratch0]) (layX4 V c) (layI4 V c) (layO4 V c) (grid4.coords t) t.val (coords4_val t)
    ((cfg4.win 0).stage (cfg4.slots t 0)) ((cfg4.win 1).stage (cfg4.slots t 1)) ((cfg4.win 2).stage (cfg4.slots t 2)) ((cfg4.win 3).stage (cfg4.slots t 3))
    ((dat4 V D c).before 0 t) b0 ((dat4 V D c).before 1 t) b1 ((dat4 V D c).before 2 t) b2 ((dat4 V D c).before 3 t) ((dat4 V D c).owesAt () t.castSucc)
  rw [out_post (idle4_iff t) (flush4_iff t)] at h
  exact WP_congr c (cc4_eq _ _ _ _ _ _ (hstage4_0 ((cfg4.slots t 0).cast nbuf4_0)) (hstage4_1 ((cfg4.slots t 1).cast nbuf4_1)) (hstage4_2 ((cfg4.slots t 2).cast nbuf4_2)) (hstage4_3 ((cfg4.slots t 3).cast nbuf4_3)) (Memref.isWhole_whole _)).symm h

theorem arr4_0 (w : Fin 4) : (dat4 V D c).arrAt w 0 = V c (Proc.devRef .tc (Pipeline.arrRef spec4 w)) := rfl
theorem arr4_out : (dat4 V D c).arrAt 3 cfg4.N = layv (layX4 V c) (layI4 V c) (layO4 V c) := by
  refine Dat.arrAt_eq_of_after_last (dat4 V D c) 3 t4_7 (by decide +kernel) (layv (layX4 V c) (layI4 V c) (layO4 V c)) (fun j => ?_)
  rfl

end Layer4

end Cert.KernelIdeal.Hand

end
-- ==== Proof.TalkCall.lean ====
/- The talking calls' proof data and body obligations. -/
module

public import proofs.«01_k».proof.Proof.Open
public import proofs.«01_k».proof.Proof.LayerCall

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

attribute [local irreducible] outv sumv

variable [∀ e, Nonempty (Elt F e)]

/-! ## What the three talking calls share -/

section Shared

variable {pv : Fin 3 → Dev nD → S64x2048.Idx → Elt F .f32} (c : Dev nD) (k : Fin 3) (rest : sProp (MT nD τ sig Unit (Elt F) ℕ UU ℕ))

/-- What a talking call keeps from the launch, what its cells' opening makes of it, and what it leaves. -/
def talkT (pv : Fin 3 → Dev nD → S64x2048.Idx → Elt F .f32) : sProp 𝕄 := iprop(∃ K, CtxP pv K ∗ lin c k)
def talkX (pv : Fin 3 → Dev nD → S64x2048.Idx → Elt F .f32) : sProp 𝕄 := iprop(∃ K, callIn c k pv K)
def talkY : sProp 𝕄 := semVal (bCell k c) 0

theorem talk_open : iprop(talkT c k pv ∗ Pipeline.ownSems0 (osem k) c ∗ levAts L lv) ⊢ (|={Set.univ}=> talkX c k pv : sProp 𝕄) := by
  unfold talkT talkX Pipeline.ownSems0
  iintro ⟨⟨%K, #HC, Hl⟩, HS, -⟩
  imod (call_open (K := K) c k) $$ [Hl HS] with HX
  · isplitr; · iexact HC
    isplitl [Hl]; · iexact Hl
    iexact HS
  imodintro
  iexists K
  iexact HX

/-- Before the call's one point and after it. -/
def talkInv (pv : Fin 3 → Dev nD → S64x2048.Idx → Elt F .f32) (n : ℕ) : sProp 𝕄 :=
  if n = 0 then iprop(talkX c k pv ∗ anyXR c k ∗ rest ∗ ∃ r, prngReg c r)
  else iprop(talkY c k ∗ (bigSep Finset.univ fun x : Fin 4 × Fin 7 => semVal ((c : Thread nD τ), osem k x) 0) ∗ anyXR c k ∗ rest ∗ ∃ r, prngReg c r)

variable (D : CellTallies nD τ sig Unit) (arg0 : Memref sig .tc .vmem S64x2048 .f32)

/-- What the return leaves, as the invariant after the point. -/
theorem talk_ret (OO : sProp (MT nD τ sig Unit (Elt F) ℕ UU ℕ)) (hOO : owesE c D ⊢ OO) :
    iprop(talkOut c k D ∗ rest ∗ ∃ r, prngReg c r) ⊢ iprop(talkInv c k rest pv 1 ∗ OO) := by
  unfold talkInv
  rw [if_neg Nat.one_ne_zero, zeros_all]
  unfold talkOut talkY anyXR
  iintro ⟨⟨Hb, HZ, HX, HY, HO⟩, Hr, Hp⟩
  isplitr [HO]
  · isplitl [Hb]; · iexact Hb
    isplitl [HZ]; · iexact HZ
    isplitl [HX HY]; · isplitl [HX] <;> iassumption
    isplitl [Hr] <;> iassumption
  · iapply hOO; iexact HO

theorem ar_body (hk : k ≠ 2) (hD : Above (3 * k.val + 3) D) (hx hr) (arg1 : Memref sig .tc .vmem S64x2048 .f32) (OI OO : sProp (MT nD τ sig Unit (Elt F) ℕ UU ℕ))
    (hOI : OI ⊢ owesE c (callO k c + D)) (hOO : owesE c D ⊢ OO)
    (B0 : (S64x2048.Idx → Elt F .f32) → S64x2048.Idx → Elt F .f32) (h0 : ∀ d, B0 d = pv k c) (B1 : (S64x2048.Idx → Elt F .f32) → S64x2048.Idx → Elt F .f32) :
    iprop(talkInv c k rest pv 0 ∗ OI ∗ (∃ d, owns (c : Thread nD τ) arg0 fullShare (B0 d)) ∗ ∃ d, owns (c : Thread nD τ) arg1 fullShare (B1 d))
      ⊢ WP c (arBody (bS k) arg0 (xM k) hx (rM k) hr (sD k) (rD k) arg1) fun _ =>
        iprop(talkInv c k rest pv 1 ∗ OO ∗ owns (c : Thread nD τ) arg0 fullShare (pv k c) ∗ owns (c : Thread nD τ) arg1 fullShare (outv pv k c)) := by
  simp only [h0]
  rw [show talkInv c k rest pv 0 = iprop(talkX c k pv ∗ anyXR c k ∗ rest ∗ ∃ r, prngReg c r) from if_pos rfl]
  unfold talkX
  iintro ⟨⟨⟨%K, HC⟩, HXR, Hr, Hp⟩, HO, ⟨%d0, Ha⟩, ⟨%d1, Hz⟩⟩
  iapply (ar_run (K := K) c k arg0 D hk hD hx hr arg1 (B1 d1) _) $$ [HC HXR Ha Hz HO]
  · isplitl [HC]; · iexact HC
    isplitl [HXR]; · iexact HXR
    isplitl [Ha]; · iexact Ha
    isplitl [Hz]; · iexact Hz
    iapply hOI; iexact HO
  iintro ⟨HT, Ha, Hz⟩
  ihave H := (talk_ret (pv := pv) c k rest D OO hOO) $$ [HT Hr Hp]
  · isplitl [HT]; · iexact HT
    isplitl [Hr] <;> iassumption
  icases H with ⟨HI, HO⟩
  isplitl [HI]; · iexact HI
  isplitl [HO]; · iexact HO
  isplitl [Ha] <;> iassumption

theorem rs_body (hk : k = 2) (hD : Above (3 * k.val + 3) D) (hx hr) (arg1 : Memref sig .tc .vmem S8x2048 .f32) (OI OO : sProp (MT nD τ sig Unit (Elt F) ℕ UU ℕ))
    (hOI : OI ⊢ owesE c (callO k c + D)) (hOO : owesE c D ⊢ OO)
    (B0 : (S64x2048.Idx → Elt F .f32) → S64x2048.Idx → Elt F .f32) (h0 : ∀ d, B0 d = pv k c) (B1 : (S8x2048.Idx → Elt F .f32) → S8x2048.Idx → Elt F .f32) :
    iprop(talkInv c k rest pv 0 ∗ OI ∗ (∃ d, owns (c : Thread nD τ) arg0 fullShare (B0 d)) ∗ ∃ d, owns (c : Thread nD τ) arg1 fullShare (B1 d))
      ⊢ WP c (rsBody (bS k) arg0 (xM k) hx (rM k) hr (sD k) (rD k) arg1) fun _ =>
        iprop(talkInv c k rest pv 1 ∗ OO ∗ owns (c : Thread nD τ) arg0 fullShare (pv k c) ∗ owns (c : Thread nD τ) arg1 fullShare (sumv pv k c)) := by
  simp only [h0]
  rw [show talkInv c k rest pv 0 = iprop(talkX c k pv ∗ anyXR c k ∗ rest ∗ ∃ r, prngReg c r) from if_pos rfl]
  unfold talkX
  iintro ⟨⟨⟨%K, HC⟩, HXR, Hr, Hp⟩, HO, ⟨%d0, Ha⟩, ⟨%d1, Hz⟩⟩
  iapply (rs_run (K := K) c k arg0 D hk hD hx hr arg1 (B1 d1) _) $$ [HC HXR Ha Hz HO]
  · isplitl [HC]; · iexact HC
    isplitl [HXR]; · iexact HXR
    isplitl [Ha]; · iexact Ha
    isplitl [Hz]; · iexact Hz
    iapply hOI; iexact HO
  iintro ⟨HT, Ha, Hz⟩
  ihave H := (talk_ret (pv := pv) c k rest D OO hOO) $$ [HT Hr Hp]
  · isplitl [HT]; · iexact HT
    isplitl [Hr] <;> iassumption
  icases H with ⟨HI, HO⟩
  isplitl [HI]; · iexact HI
  isplitl [HO]; · iexact HO
  isplitl [Ha] <;> iassumption

/-- The invariant's two ends, the scoped buffers `S` being the scratch and the rest. -/
theorem talk_in (S H : sProp (MT nD τ sig Unit (Elt F) ℕ UU ℕ)) (hS : S ⊢ iprop(anyXR c k ∗ rest)) :
    iprop(S ∗ (∃ r, prngReg c r) ∗ H ∗ talkX c k pv) ⊢ talkInv c k rest pv 0 := by
  rw [show talkInv c k rest pv 0 = iprop(talkX c k pv ∗ anyXR c k ∗ rest ∗ ∃ r, prngReg c r) from if_pos rfl]
  iintro ⟨HS, Hp, -, HX⟩
  ihave H := hS $$ HS
  icases H with ⟨Ha, Hr⟩
  isplitl [HX]; · iexact HX
  isplitl [Ha]; · iexact Ha
  isplitl [Hr] <;> iassumption
theorem talk_out (n : ℕ) (hn : n ≠ 0) (S H : sProp (MT nD τ sig Unit (Elt F) ℕ UU ℕ)) (hS : iprop(anyXR c k ∗ rest) ⊢ S) (hH : iprop(emp) ⊢ H) :
    talkInv c k rest pv n ⊢ iprop(S ∗ (∃ r, prngReg c r) ∗ H ∗ Pipeline.ownSems0 (osem k) c ∗ talkY c k) := by
  rw [show talkInv c k rest pv n = iprop(talkY c k ∗ (bigSep Finset.univ fun x : Fin 4 × Fin 7 => semVal ((c : Thread nD τ), osem k x) 0) ∗ anyXR c k ∗ rest ∗ ∃ r, prngReg c r) from if_neg hn]
  unfold Pipeline.ownSems0
  iintro ⟨HY, HZ, Ha, Hr, Hp⟩
  isplitl [Ha Hr]
  · iapply hS; isplitl [Ha] <;> iassumption
  isplitl [Hp]; · iexact Hp
  isplitr [HZ HY]
  · iapply hH; iempintro
  isplitl [HZ]; · iexact HZ
  iexact HY

theorem owes_in {cfg : Pipeline.Cfg sig Λ₀} {c : Dev nD} (dat : Dat τ (Elt F) Unit ℕ UU ℕ cfg c) (t : Fin (cfg.N + 1)) (O : CellTallies nD τ sig Unit) (h : dat.owed t = O) :
    dat.owesAt () t ⊢ (owesE c O : sProp 𝕄) := by
  unfold Dat.owesAt Pipeline.owesWithin owesE
  rw [h]
  iintro ⟨%W, -, HO⟩
  iexists W
  iexact HO
theorem owes_out {cfg : Pipeline.Cfg sig Λ₀} {c : Dev nD} (dat : Dat τ (Elt F) Unit ℕ UU ℕ cfg c) (t : Fin (cfg.N + 1)) (O : CellTallies nD τ sig Unit) (h : dat.owed t = O)
    (hr : dat.recorded t = Set.univ) : owesE c O ⊢ (dat.owesAt () t : sProp 𝕄) := by
  unfold Dat.owesAt Pipeline.owesWithin Dat.bound owesE
  rw [h, hr]
  iintro ⟨%W, HO⟩
  iexists W
  isplitr
  · ipureintro; exact fun _ _ => Or.inl trivial
  · iexact HO

/-- What is owed once call `k` is over is above every level of call `k`. -/
theorem due_above (c : Dev nD) : Above (3 * k.val + 3) (dueFrom c (k.val + 1)) := by
  match k with
  | 0 => exact (above_call 1 c (by decide)).add (above_call 2 c (by decide))
  | 1 => exact above_call 2 c (by decide)
  | 2 => exact Above.zero _
theorem due_split (c : Dev nD) : dueFrom c k.val = callO k c + dueFrom c (k.val + 1) := by
  match k with
  | 0 => rfl
  | 1 => rfl
  | 2 => exact (add_zero _).symm
/-- What is owed at any point is above level 0. -/
theorem due_pos (c : Dev nD) : ∀ n, Above 0 (dueFrom c n)
  | 0 => (above_call 0 c (by decide)).add ((above_call 1 c (by decide)).add (above_call 2 c (by decide)))
  | 1 => (above_call 1 c (by decide)).add (above_call 2 c (by decide))
  | 2 => above_call 2 c (by decide)
  | _ + 3 => Above.zero _

end Shared

/-! ## The first talking call -/

section Talk1

variable (pv : Fin 3 → Dev nD → S64x2048.Idx → Elt F .f32) (V : Dev nD → Valuation τ sig (Elt F)) (c : Dev nD)

def dat1 (c : Dev nD) : Dat τ (Elt F) Unit ℕ UU ℕ cfg1 c where
  A w := V c (Proc.devRef .tc (Pipeline.arrRef spec1 w))
  after := fun (w : Fin 2) t => match w with
    | 0 => pv 0 c
    | 1 => outv pv 0 c
  Φ t := talkInv c 0 (Pipeline.scopedRestBut spec1 c [cc1_scratch0, cc1_scratch1]) pv t.val
  q _ := fullShare
  owed t := dueFrom c (0 + t.val)

theorem block1 (hV : V c main_v1 = pv 0 c) (t : Fin cfg1.N) : (dat1 pv V c).blockOf 0 t = pv 0 c := by
  rw [← hV]
  funext y
  show (V c main_v1 : S64x2048.Idx → Elt F .f32) (((cfg1.win 0).blk t).view.emb y) = V c main_v1 y
  refine congrArg _ (funext fun a => Fin.ext ?_)
  blk_simp
  have h : ∀ (t : Fin grid1.N) (a : Fin 2), win1_0.index t a * win1_0.size a = 0 := by decide
  exact (congrArg (· + (y a).val) (h t a)).trans (Nat.zero_add _)

theorem body1 (hV : V c main_v1 = pv 0 c) : BodyObligation (dat1 pv V c) defs₀ 𝒱₀ () Set.univ := fun t => by
  obtain rfl := fin_N1 t
  rw [bigSep_W1, bigSep_W1]
  have b0 : ∀ d, (dat1 pv V c).before 0 t1_0 d = pv 0 c := fun d => ((dat1 pv V c).before_fetched 0 t1_0 (fetch1_0 t1_0) d).trans (block1 pv V c hV t1_0)
  have h := ar_body (pv := pv) c 0 (Pipeline.scopedRestBut spec1 c [cc1_scratch0, cc1_scratch1]) (dueFrom c (0 + 1)) ((cfg1.win 0).stage (cfg1.slots t1_0 0)) (by decide) (due_above 0 c)
    (xM_whole 0) (rM_whole 0) ((cfg1.win 1).stage (cfg1.slots t1_0 1)) ((dat1 pv V c).owesAt () t1_0.castSucc) ((dat1 pv V c).owesAt () t1_0.succ)
    (owes_in _ _ _ (due_split 0 c)) (owes_out _ _ _ rfl rfl) ((dat1 pv V c).before 0 t1_0) b0 ((dat1 pv V c).before 1 t1_0)
  exact WP_congr c (cc1_eq _ (hstage1_0 0) _ (hstage1_1 0) _ (xM_whole 0) _ (rM_whole 0) _ _).symm h

theorem arr1_out : (dat1 pv V c).arrAt 1 cfg1.N = outv pv 0 c := by
  refine Dat.arrAt_eq_of_after_last (dat1 pv V c) 1 t1_0 (by decide +kernel) (outv pv 0 c) (fun j => ?_)
  rfl

theorem scoped1 : (Pipeline.scopedRest spec1 c : sProp 𝕄) = iprop(anyXR c 0 ∗ Pipeline.scopedRestBut spec1 c [cc1_scratch0, cc1_scratch1]) := by
  rw [scopedRest1_split]
  unfold anyXR
  simp only [owns_whole]
  rfl

end Talk1

/-! ## The second talking call -/

section Talk3

variable (pv : Fin 3 → Dev nD → S64x2048.Idx → Elt F .f32) (V : Dev nD → Valuation τ sig (Elt F)) (c : Dev nD)

def dat3 (c : Dev nD) : Dat τ (Elt F) Unit ℕ UU ℕ cfg3 c where
  A w := V c (Proc.devRef .tc (Pipeline.arrRef spec3 w))
  after := fun (w : Fin 2) t => match w with
    | 0 => pv 1 c
    | 1 => outv pv 1 c
  Φ t := talkInv c 1 (Pipeline.scopedRestBut spec3 c [cc3_scratch0, cc3_scratch1]) pv t.val
  q _ := fullShare
  owed t := dueFrom c (1 + t.val)

theorem block3 (hV : V c main_v3 = pv 1 c) (t : Fin cfg3.N) : (dat3 pv V c).blockOf 0 t = pv 1 c := by
  rw [← hV]
  funext y
  show (V c main_v3 : S64x2048.Idx → Elt F .f32) (((cfg3.win 0).blk t).view.emb y) = V c main_v3 y
  refine congrArg _ (funext fun a => Fin.ext ?_)
  blk_simp
  have h : ∀ (t : Fin grid3.N) (a : Fin 2), win3_0.index t a * win3_0.size a = 0 := by decide
  exact (congrArg (· + (y a).val) (h t a)).trans (Nat.zero_add _)

theorem body3 (hV : V c main_v3 = pv 1 c) : BodyObligation (dat3 pv V c) defs₀ 𝒱₀ () Set.univ := fun t => by
  obtain rfl := fin_N3 t
  rw [bigSep_W3, bigSep_W3]
  have b0 : ∀ d, (dat3 pv V c).before 0 t3_0 d = pv 1 c := fun d => ((dat3 pv V c).before_fetched 0 t3_0 (fetch3_0 t3_0) d).trans (block3 pv V c hV t3_0)
  have h := ar_body (pv := pv) c 1 (Pipeline.scopedRestBut spec3 c [cc3_scratch0, cc3_scratch1]) (dueFrom c (1 + 1)) ((cfg3.win 0).stage (cfg3.slots t3_0 0)) (by decide) (due_above 1 c)
    (xM_whole 1) (rM_whole 1) ((cfg3.win 1).stage (cfg3.slots t3_0 1)) ((dat3 pv V c).owesAt () t3_0.castSucc) ((dat3 pv V c).owesAt () t3_0.succ)
    (owes_in _ _ _ (due_split 1 c)) (owes_out _ _ _ rfl rfl) ((dat3 pv V c).before 0 t3_0) b0 ((dat3 pv V c).before 1 t3_0)
  exact WP_congr c (cc3_eq _ (hstage3_0 0) _ (hstage3_1 0) _ (xM_whole 1) _ (rM_whole 1) _ _).symm h

theorem arr3_out : (dat3 pv V c).arrAt 1 cfg3.N = outv pv 1 c := by
  refine Dat.arrAt_eq_of_after_last (dat3 pv V c) 1 t3_0 (by decide +kernel) (outv pv 1 c) (fun j => ?_)
  rfl

theorem scoped3 : (Pipeline.scopedRest spec3 c : sProp 𝕄) = iprop(anyXR c 1 ∗ Pipeline.scopedRestBut spec3 c [cc3_scratch0, cc3_scratch1]) := by
  rw [scopedRest3_split]
  unfold anyXR
  simp only [owns_whole]
  rfl

end Talk3

/-! ## The third talking call -/

section Talk5

variable (pv : Fin 3 → Dev nD → S64x2048.Idx → Elt F .f32) (V : Dev nD → Valuation τ sig (Elt F)) (c : Dev nD)

def dat5 (c : Dev nD) : Dat τ (Elt F) Unit ℕ UU ℕ cfg5 c where
  A w := V c (Proc.devRef .tc (Pipeline.arrRef spec5 w))
  after := fun (w : Fin 2) t => match w with
    | 0 => pv 2 c
    | 1 => sumv pv 2 c
  Φ t := talkInv c 2 (Pipeline.scopedRestBut spec5 c [cc5_scratch0, cc5_scratch1]) pv t.val
  q _ := fullShare
  owed t := dueFrom c (2 + t.val)

theorem block5 (hV : V c main_v5 = pv 2 c) (t : Fin cfg5.N) : (dat5 pv V c).blockOf 0 t = pv 2 c := by
  rw [← hV]
  funext y
  show (V c main_v5 : S64x2048.Idx → Elt F .f32) (((cfg5.win 0).blk t).view.emb y) = V c main_v5 y
  refine congrArg _ (funext fun a => Fin.ext ?_)
  blk_simp
  have h : ∀ (t : Fin grid5.N) (a : Fin 2), win5_0.index t a * win5_0.size a = 0 := by decide
  exact (congrArg (· + (y a).val) (h t a)).trans (Nat.zero_add _)

theorem body5 (hV : V c main_v5 = pv 2 c) : BodyObligation (dat5 pv V c) defs₀ 𝒱₀ () Set.univ := fun t => by
  obtain rfl := fin_N5 t
  rw [bigSep_W5, bigSep_W5]
  have b0 : ∀ d, (dat5 pv V c).before 0 t5_0 d = pv 2 c := fun d => ((dat5 pv V c).before_fetched 0 t5_0 (fetch5_0 t5_0) d).trans (block5 pv V c hV t5_0)
  have h := rs_body (pv := pv) c 2 (Pipeline.scopedRestBut spec5 c [cc5_scratch0, cc5_scratch1]) (dueFrom c (2 + 1)) ((cfg5.win 0).stage (cfg5.slots t5_0 0)) (by decide) (due_above 2 c)
    (xM_whole 2) (rM_whole 2) ((cfg5.win 1).stage (cfg5.slots t5_0 1)) ((dat5 pv V c).owesAt () t5_0.castSucc) ((dat5 pv V c).owesAt () t5_0.succ)
    (owes_in _ _ _ (due_split 2 c)) (owes_out _ _ _ rfl rfl) ((dat5 pv V c).before 0 t5_0) b0 ((dat5 pv V c).before 1 t5_0)
  exact WP_congr c (cc5_eq _ (hstage5_0 0) _ (hstage5_1 0) _ (xM_whole 2) _ (rM_whole 2) _ _).symm h

theorem arr5_out : (dat5 pv V c).arrAt 1 cfg5.N = sumv pv 2 c := by
  refine Dat.arrAt_eq_of_after_last (dat5 pv V c) 1 t5_0 (by decide +kernel) (sumv pv 2 c) (fun j => ?_)
  rfl

theorem scoped5 : (Pipeline.scopedRest spec5 c : sProp 𝕄) = iprop(anyXR c 2 ∗ Pipeline.scopedRestBut spec5 c [cc5_scratch0, cc5_scratch1]) := by
  rw [scopedRest5_split]
  unfold anyXR
  simp only [owns_whole]
  rfl

end Talk5

end Cert.KernelIdeal.Hand

end
-- ==== Proof.Deal.lean ====
/- The launch: every cell of the protocol, the tokens of the duties, and the credits, dealt to the devices. -/
module

public import proofs.«01_k».proof.Proof.TalkCall

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

/-! ## The cells -/

theorem bS_inj {k k' : Fin 3} (h : (.reg (bS k) : SemLoc sig) = .reg (bS k')) : k = k' := by
  have h' := congrArg role h; rw [role_bar, role_bar] at h'; injection h'
theorem dS_inj {k k' : Fin 3} {i i' : Fin 7} {a a' : Fin 4} (h : (.dma (dS k i a) : SemLoc sig) = .dma (dS k' i' a')) : k = k' ∧ i = i' ∧ a = a' := by
  have h' := congrArg role h; rw [role_dma, role_dma] at h'
  injection h' with h1 h2 h3; exact ⟨h1, h2, h3⟩
theorem dS_iff (k k' : Fin 3) (i i' : Fin 7) (a a' : Fin 4) : (.dma (dS k i a) : SemLoc sig) = .dma (dS k' i' a') ↔ k = k' ∧ i = i' ∧ a = a' :=
  ⟨dS_inj, fun ⟨h1, h2, h3⟩ => by rw [h1, h2, h3]⟩
theorem bS_iff (k k' : Fin 3) : (.reg (bS k) : SemLoc sig) = .reg (bS k') ↔ k = k' := ⟨bS_inj, fun h => by rw [h]⟩

theorem cell_dev {c c' : Dev nD} {s s' : SemLoc sig} (h : (((c : Thread nD τ), s) : GSem nD τ sig) = ((c' : Thread nD τ), s')) : c = c' ∧ s = s' :=
  ⟨congrArg (fun g : GSem nD τ sig => g.1.1) h, congrArg Prod.snd h⟩

/-- The barrier cells, and the sending and receiving cells. -/
def barEmb : Dev nD × Fin 3 ↪ GSem nD τ sig :=
  ⟨fun x => bCell x.2 x.1, fun x y h => Prod.ext (cell_dev h).1 (bS_inj (cell_dev h).2)⟩
def scEmb : Dev nD × Fin 3 × Fin 4 × Fin 7 ↪ GSem nD τ sig :=
  ⟨fun x => dCell x.2.1 x.2.2.2 x.2.2.1 x.1, fun x y h => by
    obtain ⟨h1, h2⟩ := cell_dev h
    obtain ⟨h3, h4, h5⟩ := dS_inj h2
    exact Prod.ext h1 (Prod.ext h3 (Prod.ext h5 h4))⟩
def barCells : Finset (GSem nD τ sig) := Finset.univ.map barEmb
def scCells : Finset (GSem nD τ sig) := Finset.univ.map scEmb

/-- Where the copy counted on partner `i`'s cell of kind `a` is counted: a sending cell is the sender's own. -/
def rt (a : Fin 4) (i : Fin 7) (c : Dev nD) : Dev nD := if a = 1 ∨ a = 3 then peer i c else c
theorem rt_inj {a : Fin 4} {i : Fin 7} {c c' : Dev nD} (h : rt a i c = rt a i c') : c = c' := by
  unfold rt at h
  split at h
  · have h' := congrArg (peer i) h; rwa [peer_peer, peer_peer] at h'
  · exact h

/-- The duties by who discharges them: a barrier unit to every partner, and every copy's two. -/
def tokEmb : (Dev nD × Fin 3 × Fin 7) ⊕ (Dev nD × Fin 3 × Fin 4 × Fin 7) ↪ GSem nD τ sig × ℕ × Fin 7 :=
  ⟨fun | .inl x => (bCell x.2.1 (peer x.2.2 x.1), 0, x.2.2) | .inr x => (dCell x.2.1 x.2.2.2 x.2.2.1 (rt x.2.2.1 x.2.2.2 x.1), 0, 0), by
    rintro (⟨c, k, i⟩ | ⟨c, k, a, i⟩) (⟨c', k', i'⟩ | ⟨c', k', a', i'⟩) h
    · obtain ⟨h1, h2⟩ := cell_dev (congrArg Prod.fst h)
      have h3 : i = i' := congrArg (fun t : GSem nD τ sig × ℕ × Fin 7 => t.2.2) h
      have h4 : k = k' := bS_inj h2
      subst h3; subst h4
      have h5 := congrArg (peer i) h1
      dsimp only at h5
      rw [peer_peer, peer_peer] at h5
      rw [h5]
    · exact absurd (congrArg role (cell_dev (congrArg Prod.fst h)).2) (by dsimp only; rw [role_bar, role_dma]; exact nofun)
    · exact absurd (congrArg role (cell_dev (congrArg Prod.fst h)).2) (by dsimp only; rw [role_bar, role_dma]; exact nofun)
    · obtain ⟨h1, h2⟩ := cell_dev (congrArg Prod.fst h)
      obtain ⟨h3, h4, h5⟩ := dS_inj h2
      dsimp only at h3 h4 h5
      subst h3; subst h4; subst h5
      have h6 : c = c' := rt_inj h1
      rw [h6]⟩
def talkToks : Finset (GSem nD τ sig × ℕ × Fin 7) := Finset.univ.map tokEmb

theorem disjoint_cells : Disjoint barCells scCells := by
  rw [Finset.disjoint_left]
  rintro g h₁ h₂
  obtain ⟨x, -, rfl⟩ := Finset.mem_map.mp h₁
  obtain ⟨y, -, h⟩ := Finset.mem_map.mp h₂
  exact absurd (congrArg role (congrArg Prod.snd h)) (by
    show role (.dma (dS y.2.1 y.2.2.2 y.2.2.1)) ≠ role (.reg (bS x.2))
    rw [role_bar, role_dma]; exact nofun)

theorem bar_mem (k : Fin 3) (c : Dev nD) : bCell k c ∈ barCells := Finset.mem_map.mpr ⟨(c, k), Finset.mem_univ _, rfl⟩
theorem sc_mem (k : Fin 3) (i : Fin 7) (a : Fin 4) (c : Dev nD) : dCell k i a c ∈ scCells := Finset.mem_map.mpr ⟨(c, k, a, i), Finset.mem_univ _, rfl⟩

/-! ## The records -/

theorem bigSep_or {I : Type} [DecidableEq I] {s t : Finset I} (h : Disjoint s t) (Φ : I → sProp 𝕄) : bigSep (s ∪ t) Φ = iprop(bigSep s Φ ∗ bigSep t Φ) := BI.bigSep_union h

section Records
variable (pv : Fin 3 → Dev nD → S64x2048.Idx → Elt F .f32) (κ : GSem nD τ sig → ℕ)

/-- What the launch leaves everybody to know. -/
def records : sProp 𝕄 :=
  iprop(levAts L lv ∗ (bigSep (barCells ∪ scCells) fun g => cellInv ER (talkRd (xvOf pv) (gvOf pv)) (κ g) g) ∗ bigSep barCells fun g => reached ER g 0)
instance records_persistent : BI.Persistent (records pv κ) := by unfold records; infer_instance

theorem records_ctx : records pv κ ⊢ CtxP pv κ := by
  unfold records CtxP Ctx
  rw [bigSep_or disjoint_cells]
  iintro ⟨#HL, ⟨#HB, #HS⟩, #HR⟩
  isplitr; · iexact HL
  isplitr
  · rw [bigSep_sep']
    isplitr
    · have h : (bigSep barCells fun g => (cellInv ER (talkRd (xvOf pv) (gvOf pv)) (κ g) g : sProp 𝕄)) ⊢ bigSep Finset.univ fun x : Fin 3 × Dev nD => cellInv ER (talkRd (xvOf pv) (gvOf pv)) (κ (bCell x.1 x.2)) (bCell x.1 x.2) :=
        Entails.of_eq ((BI.bigSep_map barEmb).trans (BI.bigSep_univ_equiv (Equiv.prodComm (Fin 3) (Dev nD)) _))
      iapply h; iexact HB
    · have h : (bigSep barCells fun g => (reached ER g 0 : sProp 𝕄)) ⊢ bigSep Finset.univ fun x : Fin 3 × Dev nD => reached ER (bCell x.1 x.2) 0 :=
        Entails.of_eq ((BI.bigSep_map barEmb).trans (BI.bigSep_univ_equiv (Equiv.prodComm (Fin 3) (Dev nD)) _))
      iapply h; iexact HR
  · have h : (bigSep scCells fun g => (cellInv ER (talkRd (xvOf pv) (gvOf pv)) (κ g) g : sProp 𝕄))
        ⊢ bigSep Finset.univ fun x : (Fin 3 × Fin 7 × Fin 4) × Dev nD => cellInv ER (talkRd (xvOf pv) (gvOf pv)) (κ (dCell x.1.1 x.1.2.1 x.1.2.2 x.2)) (dCell x.1.1 x.1.2.1 x.1.2.2 x.2) :=
      Entails.of_eq ((BI.bigSep_map scEmb).trans (BI.bigSep_univ_equiv
        (⟨fun x => (x.2, x.1.1, x.1.2.2, x.1.2.1), fun x => ((x.2.1, x.2.2.2, x.2.2.1), x.1), fun _ => rfl, fun _ => rfl⟩ : (Fin 3 × Fin 7 × Fin 4) × Dev nD ≃ Dev nD × Fin 3 × Fin 4 × Fin 7) _))
    iapply h; iexact HS
end Records

/-! ## What goes to each device -/

/-- For one call: the position on the barrier cell, the duties discharged, the right to open the device's own cells. -/
def atC (c : Dev nD) (k : Fin 3) : sProp 𝕄 := atPos ER (bCell k c) 0 ∅ 0
def opC (c : Dev nD) (k : Fin 3) : sProp 𝕄 := bigSep Finset.univ fun x : Fin 4 × Fin 7 => openTok ER (dCell k x.2 x.1 c)
def tbC (c : Dev nD) (k : Fin 3) : sProp 𝕄 := bigSep Finset.univ fun i : Fin 7 => dutyTok ER (bCell k (peer i c)) 0 i
def tdC (c : Dev nD) (k : Fin 3) : sProp 𝕄 := bigSep Finset.univ fun x : Fin 4 × Fin 7 => dutyTok ER (dCell k x.2 x.1 (rt x.1 x.2 c)) 0 0

theorem at_deal : (bigSep barCells fun g => (atPos ER g 0 ∅ 0 : sProp 𝕄)) = bigSep Finset.univ fun c : Dev nD => bigSep Finset.univ (atC c) := by
  unfold barCells; rw [BI.bigSep_map, BI.bigSep_univ_prod]; rfl
theorem val_deal : (bigSep barCells fun g => (semVal g 0 : sProp 𝕄)) = bigSep Finset.univ fun c : Dev nD => bigSep Finset.univ fun k : Fin 3 => semVal (bCell k c) 0 := by
  unfold barCells; rw [BI.bigSep_map, BI.bigSep_univ_prod]; rfl
theorem op_deal : (bigSep scCells fun g => (openTok ER g : sProp 𝕄)) = bigSep Finset.univ fun c : Dev nD => bigSep Finset.univ (opC c) := by
  unfold scCells; rw [BI.bigSep_map, BI.bigSep_univ_prod]
  exact bigSep_congr fun c _ => BI.bigSep_univ_prod _
theorem tok_deal : (bigSep talkToks fun x => (dutyTok ER x.1 x.2.1 x.2.2 : sProp 𝕄))
    = iprop((bigSep Finset.univ fun c : Dev nD => bigSep Finset.univ (tbC c)) ∗ bigSep Finset.univ fun c : Dev nD => bigSep Finset.univ (tdC c)) := by
  unfold talkToks; rw [BI.bigSep_map, BI.bigSep_univ_sum, BI.bigSep_univ_prod, BI.bigSep_univ_prod]
  have h1 : (bigSep Finset.univ fun c : Dev nD => bigSep Finset.univ fun b : Fin 3 × Fin 7 => (dutyTok ER (tokEmb (.inl (c, b))).1 (tokEmb (.inl (c, b))).2.1 (tokEmb (.inl (c, b))).2.2 : sProp 𝕄))
      = bigSep Finset.univ fun c : Dev nD => bigSep Finset.univ (tbC c) := bigSep_congr fun c _ => BI.bigSep_univ_prod _
  have h2 : (bigSep Finset.univ fun c : Dev nD => bigSep Finset.univ fun b : Fin 3 × Fin 4 × Fin 7 => (dutyTok ER (tokEmb (.inr (c, b))).1 (tokEmb (.inr (c, b))).2.1 (tokEmb (.inr (c, b))).2.2 : sProp 𝕄))
      = bigSep Finset.univ fun c : Dev nD => bigSep Finset.univ (tdC c) := bigSep_congr fun c _ => BI.bigSep_univ_prod _
  exact congrArg₂ BIBase.sep h1 h2

/-! ## The launch credit -/

/-- The cells a device waits on for others, and what it may take from each. -/
def crS : Fin 3 × (Unit ⊕ (Fin 7 ⊕ Fin 7)) → SemLoc sig
  | (k, .inl _) => .reg (bS k)
  | (k, .inr (.inl i)) => .dma (dS k i 1)
  | (k, .inr (.inr i)) => .dma (dS k i 3)
def crN : Fin 3 × (Unit ⊕ (Fin 7 ⊕ Fin 7)) → ℕ
  | (_, .inl _) => 7
  | (_, .inr (.inl _)) => N
  | (k, .inr (.inr _)) => if k = 2 then 0 else N
theorem crS_inj : Function.Injective crS := by
  rintro ⟨k, u | i | i⟩ ⟨k', u' | i' | i'⟩ h
  · rw [bS_inj h]
  · exact nomatch h
  · exact nomatch h
  · exact nomatch h
  · obtain ⟨rfl, rfl, -⟩ := dS_inj h; rfl
  · exact absurd (dS_inj h).2.2 (by decide)
  · exact nomatch h
  · exact absurd (dS_inj h).2.2 (by decide)
  · obtain ⟨rfl, rfl, -⟩ := dS_inj h; rfl

theorem owe_at (f : Fin 7 → CellTallies nD τ sig Unit) (g : GSem nD τ sig) : owe f all7 g () = ∑ i, f i g () := by
  rw [Fin.sum_univ_seven]
  show f 0 g () + (f 1 g () + (f 2 g () + (f 3 g () + (f 4 g () + (f 5 g () + (f 6 g () + 0)))))) = _
  omega

/-- What all devices owe at a cell, where each owes one partner `n` on that partner's semaphore. -/
theorem owe_sum (s : Fin 7 → SemLoc sig) (n : ℕ) (c : Dev nD) (sm : SemLoc sig) :
    ∑ d : Dev nD, owe (fun i => (tallyAt (((peer i d : Dev nD) : Thread nD τ), s i) () n : CellTallies nD τ sig Unit)) all7 ((c : Thread nD τ), sm) () = ∑ i, if sm = s i then n else 0 := by
  simp only [owe_at]
  rw [Finset.sum_comm]
  refine Finset.sum_congr rfl fun i _ => ?_
  have hd (d : Dev nD) : (tallyAt (((peer i d : Dev nD) : Thread nD τ), s i) () n : CellTallies nD τ sig Unit) ((c : Thread nD τ), sm) () = if d = peer i c then (if sm = s i then n else 0) else 0 := by
    rw [tallyAt_apply]
    by_cases h : d = peer i c
    · subst h
      rw [if_pos rfl, peer_peer]
      by_cases hs : sm = s i
      · rw [if_pos ⟨by rw [hs], rfl⟩, if_pos hs]
      · rw [if_neg (fun h => hs (cell_dev h.1).2), if_neg hs]
    · rw [if_neg h, if_neg (fun h' => h (by rw [(cell_dev h'.1).1, peer_peer]))]
  rw [Finset.sum_congr rfl fun d _ => hd d, Finset.sum_ite_eq' Finset.univ (peer i c), if_pos (Finset.mem_univ _)]

theorem call_sum (k : Fin 3) (c : Dev nD) (sm : SemLoc sig) :
    ∑ d : Dev nD, callO k d ((c : Thread nD τ), sm) ()
      = (∑ i : Fin 7, if sm = .reg (bS k) then 1 else 0) + ((∑ i : Fin 7, if sm = .dma (dS k i 1) then N else 0) + ∑ i : Fin 7, if sm = .dma (dS k i 3) then (if k = 2 then 0 else N) else 0) := by
  have h (d : Dev nD) : callO k d ((c : Thread nD τ), sm) ()
      = owe (barO k d) all7 ((c : Thread nD τ), sm) () + (owe (rsO k d) all7 ((c : Thread nD τ), sm) () + owe (agO k d) all7 ((c : Thread nD τ), sm) ()) := rfl
  rw [Finset.sum_congr rfl fun d _ => h d, Finset.sum_add_distrib, Finset.sum_add_distrib]
  exact congrArg₂ (· + ·) (owe_sum (fun _ => .reg (bS k)) 1 c sm) (congrArg₂ (· + ·) (owe_sum (fun i => .dma (dS k i 1)) N c sm) (owe_sum (fun i => .dma (dS k i 3)) (if k = 2 then 0 else N) c sm))

theorem bar_count : ∀ k : Fin 3, (∑ i : Fin 7, if (.reg (bS k) : SemLoc sig) = .reg (bS 0) then 1 else 0) + (0 + 0)
    + ((∑ i : Fin 7, if (.reg (bS k) : SemLoc sig) = .reg (bS 1) then 1 else 0) + (0 + 0) + ((∑ i : Fin 7, if (.reg (bS k) : SemLoc sig) = .reg (bS 2) then 1 else 0) + (0 + 0))) = 7 := by decide

theorem due_sum (c : Dev nD) (x : Fin 3 × (Unit ⊕ (Fin 7 ⊕ Fin 7))) : ∑ d : Dev nD, dueFrom d 0 ((c : Thread nD τ), crS x) () = crN x := by
  have h (d : Dev nD) : dueFrom d 0 ((c : Thread nD τ), crS x) ()
      = callO 0 d ((c : Thread nD τ), crS x) () + (callO 1 d ((c : Thread nD τ), crS x) () + callO 2 d ((c : Thread nD τ), crS x) ()) := rfl
  rw [Finset.sum_congr rfl fun d _ => h d, Finset.sum_add_distrib, Finset.sum_add_distrib, call_sum, call_sum, call_sum]
  obtain ⟨k, u | i | i⟩ := x
  · simp only [crS, crN, reduceCtorEq, if_false, Finset.sum_const_zero]
    exact bar_count k
  · simp only [crS, crN, dS_iff, reduceCtorEq, if_false, Finset.sum_const_zero]
    revert k i
    generalize N = n
    intro k i
    fin_cases k <;> simp
  · simp only [crS, crN, dS_iff, reduceCtorEq, if_false, Finset.sum_const_zero]
    revert k i
    generalize N = n
    intro k i
    fin_cases k <;> simp

/-- For one call, the credits of the waits. -/
def crC (c : Dev nD) (k : Fin 3) : sProp 𝕄 := bigSep Finset.univ fun x : Unit ⊕ (Fin 7 ⊕ Fin 7) => cred (tallyAt ((c : Thread nD τ), crS (k, x)) () (crN (k, x)))

theorem cred_deal (c : Dev nD) : (Pipeline.launchCred (fun c => dueFrom c 0) c : sProp 𝕄) ⊢ bigSep Finset.univ (crC c) := by
  unfold Pipeline.launchCred
  have hx (x : Fin 3 × (Unit ⊕ (Fin 7 ⊕ Fin 7))) : (tallyOn ((c : Thread nD τ), crS x) (launchCredit (Pipeline.owing fun c => dueFrom c 0) 0 ((c : Thread nD τ), crS x)) : CellTallies nD τ sig Unit)
      = tallyAt ((c : Thread nD τ), crS x) () (crN x) := by
    unfold tallyAt
    refine congrArg _ (Finsupp.ext fun u => ?_)
    cases u
    rw [Pipeline.launchCredit_owing, Finsupp.single_eq_same]
    exact due_sum c x
  have h := BI.bigSep_subset (M := 𝕄) (Φ := fun sm : SemLoc sig => cred (tallyOn ((c : Thread nD τ), sm) (launchCredit (Pipeline.owing fun c => dueFrom c 0) 0 ((c : Thread nD τ), sm))))
    (Finset.subset_univ (Finset.univ.map ⟨crS, crS_inj⟩))
  rw [BI.bigSep_map, BI.bigSep_univ_prod] at h
  refine h.trans (bigSep_mono fun k _ => bigSep_mono fun x _ => ?_)
  have e := hx (k, x)
  exact Entails.of_eq (congrArg cred e)

theorem bigSep_two {α β : Type} [Fintype α] [Fintype β] (Φ : α ⊕ β → sProp 𝕄) :
    bigSep Finset.univ Φ = iprop((bigSep Finset.univ fun a => Φ (.inl a)) ∗ bigSep Finset.univ fun b => Φ (.inr b)) := BI.bigSep_univ_sum Φ

theorem lin_intro (c : Dev nD) (k : Fin 3) : iprop(atC c k ∗ opC c k ∗ tbC c k ∗ tdC c k ∗ crC c k) ⊢ (lin c k : sProp 𝕄) := by
  unfold atC opC tbC tdC crC lin
  rw [bigSep_47 (fun a i => dutyTok ER (dCell k i a (rt a i c)) 0 0), bigSep_two, bigSep_two, show (Finset.univ : Finset Unit) = {()} from rfl, BI.bigSep_singleton]
  iintro ⟨Ha, Ho, Hb, ⟨H0, H1, H2, H3⟩, Hc, Hc1, Hc3⟩
  isplitl [Ha Hc]
  · isplitl [Ha]; · iexact Ha
    iexact Hc
  isplitl [Hb]; · iexact Hb
  isplitl [H0 H1 H2 H3]
  · isplitl [H0]; · iexact H0
    isplitl [H1]; · iexact H1
    isplitl [H2]; · iexact H2
    iexact H3
  isplitl [Ho]; · iexact Ho
  isplitl [Hc1]; · iexact Hc1
  iexact Hc3

/-! ## The counters at the launch -/

theorem unscoped_bar : ∀ sm : SemLoc sig, sm.isScoped .tc = false → ∃ k : Fin 3, sm = .reg (bS k) := by decide +kernel
theorem bar_unscoped : ∀ k : Fin 3, (.reg (bS k) : SemLoc sig).isScoped .tc = false := by decide
theorem unscoped_eq (c : Dev nD) : (unscopedSems0 c : sProp 𝕄) = bigSep Finset.univ fun k : Fin 3 => semVal (bCell k c) 0 := by
  unfold unscopedSems0
  rw [show (Finset.univ.filter fun sm : SemLoc sig => ¬ sm.isScoped .tc) = Finset.univ.map ⟨fun k : Fin 3 => (.reg (bS k) : SemLoc sig), fun _ _ h => bS_inj h⟩ from by
    ext sm
    rw [Finset.mem_filter, Finset.mem_map]
    constructor
    · rintro ⟨-, h⟩
      obtain ⟨k, rfl⟩ := unscoped_bar sm (by simpa using h)
      exact ⟨k, Finset.mem_univ _, rfl⟩
    · rintro ⟨k, -, rfl⟩
      exact ⟨Finset.mem_univ _, by rw [show (((⟨fun k : Fin 3 => (.reg (bS k) : SemLoc sig), fun _ _ h => bS_inj h⟩ : Fin 3 ↪ SemLoc sig) k).isScoped .tc) = false from bar_unscoped k]; decide⟩, BI.bigSep_map]
  rfl

end Cert.KernelIdeal.Hand

end
-- ==== Proof.Contents.lean ====
/- The contents of the buffers between the six calls, the calls' proof data, and what a device holds between two calls. -/
module

public import proofs.«01_k».proof.Proof.TalkCall
public import Idealize.ShloMosaic.Lib.Pipeline.RegionArraysS
public import Idealize.ShloMosaic.Lib.Pipeline.RegionTalk

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

attribute [local irreducible] outv sumv layv

variable [∀ e, Nonempty (Elt F e)] (m : (ℓ : Loc nD τ sig) → Buf (Elt F) ℓ)

/-! ## The contents of the buffers between the calls -/

/-- The layers' products and the sums over the devices, in the program's order; `cR` is the result. -/
def cP0 (c : Dev nD) : S64x2048.Idx → Elt F .f32 := layv (m ((c : Thread nD τ).loc main_arg0)) (m ((c : Thread nD τ).loc main_arg1)) (m ((c : Thread nD τ).loc main_arg4))
def cA0 (c : Dev nD) : S64x2048.Idx → Elt F .f32 := outv (fun _ => cP0 m) 0 c
def cP1 (c : Dev nD) : S64x2048.Idx → Elt F .f32 := layv (cA0 m c) (m ((c : Thread nD τ).loc main_arg2)) (m ((c : Thread nD τ).loc main_arg5))
def cA1 (c : Dev nD) : S64x2048.Idx → Elt F .f32 := outv (fun _ => cP1 m) 1 c
def cP2 (c : Dev nD) : S64x2048.Idx → Elt F .f32 := layv (cA1 m c) (m ((c : Thread nD τ).loc main_arg3)) (m ((c : Thread nD τ).loc main_arg6))
def cR (c : Dev nD) : S8x2048.Idx → Elt F .f32 := sumv (fun _ => cP2 m) 2 c

/-- What each talking call sums. -/
def pvM : Fin 3 → Dev nD → S64x2048.Idx → Elt F .f32
  | 0 => cP0 m
  | 1 => cP1 m
  | 2 => cP2 m

theorem outv_eq {pv pv' : Fin 3 → Dev nD → S64x2048.Idx → Elt F .f32} {k : Fin 3} (h : pv k = pv' k) (c : Dev nD) : outv pv k c = outv pv' k c := by
  unfold outv gvOf sumv partv slv xvOf
  rw [h]
theorem sumv_eq {pv pv' : Fin 3 → Dev nD → S64x2048.Idx → Elt F .f32} {k : Fin 3} (h : pv k = pv' k) (c : Dev nD) : sumv pv k c = sumv pv' k c := by
  unfold sumv partv slv xvOf
  rw [h]

/-- What the calls leave in their result buffers. -/
def outsM : Outs (F := F) := fun J r c => (match J with
  | 1 => Function.update (V0 m c) main_v1 (cP0 m c)
  | 2 => Function.update (V0 m c) main_v2 (cA0 m c)
  | 3 => Function.update (V0 m c) main_v3 (cP1 m c)
  | 4 => Function.update (V0 m c) main_v4 (cA1 m c)
  | 5 => Function.update (V0 m c) main_v5 (cP2 m c)
  | 6 => Function.update (V0 m c) main_v6 (cR m c)
  | _ => V0 m c : Valuation τ sig (Elt F)) (Proc.devRef .tc r)

variable (c : Dev nD)

theorem out1 : outsM m 1 main_v1 c = cP0 m c := by dsimp only [outsM]; exact Function.update_self ..
theorem out2 : outsM m 2 main_v2 c = cA0 m c := by dsimp only [outsM]; exact Function.update_self ..
theorem out3 : outsM m 3 main_v3 c = cP1 m c := by dsimp only [outsM]; exact Function.update_self ..
theorem out4 : outsM m 4 main_v4 c = cA1 m c := by dsimp only [outsM]; exact Function.update_self ..
theorem out5 : outsM m 5 main_v5 c = cP2 m c := by dsimp only [outsM]; exact Function.update_self ..
theorem out6 : outsM m 6 main_v6 c = cR m c := by dsimp only [outsM]; exact Function.update_self ..

theorem v1_val : V1 m (outsM m) c main_v1 = cP0 m c := (Function.update_self ..).trans (out1 m c)
theorem v2_val : V2 m (outsM m) c main_v2 = cA0 m c := (Function.update_self ..).trans (out2 m c)
theorem v3_val : V3 m (outsM m) c main_v3 = cP1 m c := (Function.update_self ..).trans (out3 m c)
theorem v4_val : V4 m (outsM m) c main_v4 = cA1 m c := (Function.update_self ..).trans (out4 m c)
theorem v5_val : V5 m (outsM m) c main_v5 = cP2 m c := (Function.update_self ..).trans (out5 m c)
theorem v6_val : V6 m (outsM m) c main_v6 = cR m c := (Function.update_self ..).trans (out6 m c)

/-! ## The six calls' proof data -/

def pdats : (p : Fin 6) → (c : Dev nD) → Dat τ (Elt F) Unit ℕ UU ℕ (Pipeline.pin (pcfgs (F := F)) adm p) c
  | 0 => dat0 (V0 m) fun c => dueFrom c 0
  | 1 => dat1 (pvM m) (V1 m (outsM m))
  | 2 => dat2 (V2 m (outsM m)) fun c => dueFrom c 1
  | 3 => dat3 (pvM m) (V3 m (outsM m))
  | 4 => dat4 (V4 m (outsM m)) fun c => dueFrom c 2
  | 5 => dat5 (pvM m) (V5 m (outsM m))

theorem end0 : (dat0 (V0 m) (fun c => dueFrom c 0) c).arrAt 3 cfg0.N = outsM m 1 main_v1 c := (arr0_out (V0 m) c _).trans (out1 m c).symm
theorem end2 : (dat2 (V2 m (outsM m)) (fun c => dueFrom c 1) c).arrAt 3 cfg2.N = outsM m 3 main_v3 c := by
  refine (arr2_out (V2 m (outsM m)) c _).trans (Eq.trans ?_ (out3 m c).symm)
  unfold cP1 layX2 layI2 layO2
  rw [v2_val m c, V2_of m (outsM m) c main_arg2 (by decide), V1_of m (outsM m) c main_arg2 (by decide), V2_of m (outsM m) c main_arg5 (by decide), V1_of m (outsM m) c main_arg5 (by decide)]
theorem end4 : (dat4 (V4 m (outsM m)) (fun c => dueFrom c 2) c).arrAt 3 cfg4.N = outsM m 5 main_v5 c := by
  refine (arr4_out (V4 m (outsM m)) c _).trans (Eq.trans ?_ (out5 m c).symm)
  unfold cP2 layX4 layI4 layO4
  rw [v4_val m c, V4_of m (outsM m) c main_arg3 (by decide), V3_of m (outsM m) c main_arg3 (by decide), V2_of m (outsM m) c main_arg3 (by decide), V1_of m (outsM m) c main_arg3 (by decide),
    V4_of m (outsM m) c main_arg6 (by decide), V3_of m (outsM m) c main_arg6 (by decide), V2_of m (outsM m) c main_arg6 (by decide), V1_of m (outsM m) c main_arg6 (by decide)]
theorem end1 : (dat1 (pvM m) (V1 m (outsM m)) c).arrAt 1 cfg1.N = V2 m (outsM m) c main_v2 :=
  ((arr1_out (pvM m) _ c).trans (outv_eq (pv' := fun _ => cP0 m) (k := 0) rfl c)).trans (v2_val m c).symm
theorem end3 : (dat3 (pvM m) (V3 m (outsM m)) c).arrAt 1 cfg3.N = V4 m (outsM m) c main_v4 :=
  ((arr3_out (pvM m) _ c).trans (outv_eq (pv' := fun _ => cP1 m) (k := 1) rfl c)).trans (v4_val m c).symm
theorem end5 : (dat5 (pvM m) (V5 m (outsM m)) c).arrAt 1 cfg5.N = V6 m (outsM m) c main_v6 :=
  ((arr5_out (pvM m) _ c).trans (sumv_eq (pv' := fun _ => cP2 m) (k := 2) rfl c)).trans (v6_val m c).symm

/-! ## What a device holds between two calls -/

/-- The protocol's part, `n` talking calls being over. -/
def protE : ℕ → sProp 𝕄
  | 0 => iprop(talkT c 1 (pvM m) ∗ talkT c 2 (pvM m))
  | 1 => iprop(talkT c 2 (pvM m) ∗ talkY c 0)
  | _ => iprop(talkY c 0 ∗ talkY c 1)
def prot : ℕ → sProp 𝕄
  | 0 => iprop(talkT c 0 (pvM m) ∗ protE m c 0)
  | 1 => iprop(talkT c 1 (pvM m) ∗ protE m c 1)
  | 2 => iprop(talkT c 2 (pvM m) ∗ protE m c 2)
  | _ => iprop(talkY c 0 ∗ talkY c 1 ∗ talkY c 2)

theorem prot_at (k : Fin 3) : prot m c k.val = iprop(talkT c k (pvM m) ∗ protE m c k.val) := by
  match k with
  | 0 => rfl
  | 1 => rfl
  | 2 => rfl
theorem prot_next (k : Fin 3) : iprop(talkY c k ∗ protE m c k.val) ⊢ prot m c (k.val + 1) := by
  match k with
  | 0 =>
    show iprop(talkY c 0 ∗ talkT c 1 (pvM m) ∗ talkT c 2 (pvM m)) ⊢ iprop(talkT c 1 (pvM m) ∗ talkT c 2 (pvM m) ∗ talkY c 0)
    iintro ⟨H, H1, H2⟩
    isplitl [H1]; · iexact H1
    isplitl [H2] <;> iassumption
  | 1 =>
    show iprop(talkY c 1 ∗ talkT c 2 (pvM m) ∗ talkY c 0) ⊢ iprop(talkT c 2 (pvM m) ∗ talkY c 0 ∗ talkY c 1)
    iintro ⟨H, H1, H2⟩
    isplitl [H1]; · iexact H1
    isplitl [H2] <;> iassumption
  | 2 =>
    show iprop(talkY c 2 ∗ talkY c 0 ∗ talkY c 1) ⊢ iprop(talkY c 0 ∗ talkY c 1 ∗ talkY c 2)
    iintro ⟨H, H1, H2⟩
    isplitl [H1]; · iexact H1
    isplitl [H2] <;> iassumption

def side (n : ℕ) (c : Dev nD) : sProp 𝕄 := iprop((∃ r, prngReg c r) ∗ prot m c n)
/-- The buffers at `V`, `n` talking calls being over. -/
def st (V : Dev nD → Valuation τ sig (Elt F)) (n : ℕ) (c : Dev nD) : sProp 𝕄 :=
  iprop(StableHlo.held (c : Thread nD τ) (Pipeline.ucRefs τ sig) (V c) ∗ ((∃ W, owes (c : Thread nD τ) (dueFrom c n) W) ∗ emp ∗ side m n c))

variable {m c}

/-- A region whose one output window is `w` changes that window's buffer and nothing else. -/
theorem region_keeps {cfg : Pipeline.Cfg sig Λ₀} (dat : Dat τ (Elt F) Unit ℕ UU ℕ cfg c) (V : Valuation τ sig (Elt F)) (hinj : Function.Injective (Pipeline.arrRef cfg.spec))
    (hA : ∀ w, dat.A w = V (Proc.devRef .tc (Pipeline.arrRef cfg.spec w))) (w : Fin cfg.W) (hw : ∀ w', w' ≠ w → (cfg.win w').isOut = false)
    (v : Ref sig .tc) (hv : Pipeline.arrRef cfg.spec w = v) (V' : Valuation τ sig (Elt F))
    (hx : Pipeline.afterRegion dat V (Proc.devRef .tc v) = V' v) (ho : ∀ r : Ref sig .tc, r ∉ [v] → V' r = V r) :
    ∀ b ∈ Pipeline.ucRefs τ sig, Pipeline.afterRegion dat V b = V' b := fun b hb => by
  have hb' := (Finset.mem_filter.mp hb).1
  obtain ⟨r, -, rfl⟩ := Finset.mem_map.mp hb'
  by_cases h : r = v
  · subst h; exact hx
  · exact (Pipeline.afterRegion_keeps dat V hinj hA r fun w' hw' => hw w' fun e => h (by rw [← hw', e, hv])).trans (ho r (fun h' => h (List.mem_singleton.mp h'))).symm

theorem layer_post {V : Dev nD → Valuation τ sig (Elt F)} {W : Valuation τ sig (Elt F)} {n : ℕ} {P : sProp (MT nD τ sig Unit (Elt F) ℕ UU ℕ)} (h : ∀ b ∈ Pipeline.ucRefs τ sig, W b = V c b)
    (hp : P ⊢ iprop(StableHlo.held (c : Thread nD τ) (Pipeline.ucRefs τ sig) W ∗ ((∃ Wd, owes (c : Thread nD τ) (dueFrom c n) Wd) ∗ emp ∗ side m n c))) : P ⊢ st m V n c := by
  rw [StableHlo.held_congr (c : Thread nD τ) h] at hp
  exact hp

/-- Entering and leaving a talking call, `A` being its operand and its result. -/
theorem talk_pre (k : Fin 3) (V : Dev nD → Valuation τ sig (Elt F)) {A : Finset (DevRef τ sig)} (hA : A ⊆ Pipeline.ucRefs τ sig) :
    st m V k.val c ⊢ iprop(StableHlo.held (c : Thread nD τ) A (V c) ∗ (∃ r, prngReg c r) ∗ (StableHlo.held (c : Thread nD τ) (Pipeline.ucRefs τ sig \ A) (V c) ∗ protE m c k.val)
      ∗ talkT c k (pvM m) ∗ ∃ Wd, owes (c : Thread nD τ) (dueFrom c (k.val + 1) + callO k c) Wd) := by
  unfold st side
  rw [StableHlo.held_sub_split (c : Thread nD τ) hA, prot_at, due_split k c, add_comm (callO k c)]
  iintro ⟨⟨HA, HS⟩, HO, -, Hp, HT, HE⟩
  isplitl [HA]; · iexact HA
  isplitl [Hp]; · iexact Hp
  isplitl [HS HE]
  · isplitl [HS] <;> iassumption
  isplitl [HT] <;> iassumption
theorem talk_post (k : Fin 3) (V : Dev nD → Valuation τ sig (Elt F)) {A : Finset (DevRef τ sig)} (hA : A ⊆ Pipeline.ucRefs τ sig) :
    iprop(StableHlo.held (c : Thread nD τ) A (V c) ∗ (∃ r, prngReg c r) ∗ (StableHlo.held (c : Thread nD τ) (Pipeline.ucRefs τ sig \ A) (V c) ∗ protE m c k.val)
      ∗ talkY c k ∗ ∃ Wd, owes (c : Thread nD τ) (dueFrom c (k.val + 1)) Wd) ⊢ st m V (k.val + 1) c := by
  unfold st side
  rw [StableHlo.held_sub_split (c : Thread nD τ) hA]
  iintro ⟨HA, Hp, ⟨HS, HE⟩, HY, HO⟩
  isplitl [HA HS]
  · isplitl [HA] <;> iassumption
  isplitl [HO]; · iexact HO
  isplitr; · iempintro
  isplitl [Hp]; · iexact Hp
  iapply (prot_next m c k)
  isplitl [HY] <;> iassumption

end Cert.KernelIdeal.Hand

end
-- ==== Proof.LayerRegs.lean ====
/- The layer calls as segments of the program. -/
module

public import proofs.«01_k».proof.Proof.Contents

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

variable [∀ e, Nonempty (Elt F e)]

/-! ## What the regions share -/

theorem lv_stage (sm : SemLoc sig) (h : role sm = .other) (c : Dev nD) (u : Unit) : lv ((c : Thread nD τ), sm) u ≤ 0 := by
  dsimp only [lv]; rw [h]
theorem L_stage (sm : SemLoc sig) (c : Dev nD) (u : Unit) : u ∈ L ((c : Thread nD τ), sm) := by rw [L_tc]; exact Finset.mem_singleton_self _

/-- The accumulator and the rest of the scoped buffers, as the invariant's ends. -/
theorem lay_in (c : Dev nD) (rest S : sProp (MT nD τ sig Unit (Elt F) ℕ UU ℕ))
    (scr : Memref sig .tc .vmem S64x2048 .f32) (x : S64x2048.Idx → Elt F .f32) (wi : S2048x4096.Idx → Elt F .f32) (wo : S4096x2048.Idx → Elt F .f32)
    (hS : S = iprop((∃ f : S64x2048.Idx → Elt F .f32, owns (c : Thread nD τ) scr fullShare f) ∗ rest)) :
    iprop(S ∗ emp) ⊢ layInv c scr rest x wi wo 0 := by
  subst hS
  iintro ⟨H, -⟩
  iapply (scr_in c scr rest x wi wo) $$ H
theorem lay_out (c : Dev nD) (rest S : sProp (MT nD τ sig Unit (Elt F) ℕ UU ℕ))
    (scr : Memref sig .tc .vmem S64x2048 .f32) (x : S64x2048.Idx → Elt F .f32) (wi : S2048x4096.Idx → Elt F .f32) (wo : S4096x2048.Idx → Elt F .f32)
    (hS : S = iprop((∃ f : S64x2048.Idx → Elt F .f32, owns (c : Thread nD τ) scr fullShare f) ∗ rest)) (n : ℕ) :
    layInv c scr rest x wi wo n ⊢ iprop(S ∗ emp) := by
  subst hS
  iintro H
  ihave H' := (scr_out c scr rest x wi wo n) $$ H
  isplitl [H']; · iexact H'
  iempintro

theorem held_none (c : Dev nD) (V : Valuation τ sig (Elt F)) : iprop(emp) ⊢ (StableHlo.held (c : Thread nD τ) ∅ V : sProp 𝕄) := Entails.of_eq BI.bigSep_empty.symm

variable (m : (ℓ : Loc nD τ sig) → Buf (Elt F) ℓ)

local notation "ℝ" => Pipeline.RegionSeg (pcfgs (F := F)) adm (pdats m) () defs₀ 𝒱₀ L lv

theorem lay_pre (n : ℕ) (V : Dev nD → Valuation τ sig (Elt F)) {A : Finset (DevRef τ sig)} (hA : A ⊆ Pipeline.ucRefs τ sig) (c : Dev nD) :
    st m V n c ⊢ iprop(StableHlo.held (c : Thread nD τ) A (V c) ∗ emp ∗ (StableHlo.held (c : Thread nD τ) (Pipeline.ucRefs τ sig \ A) (V c) ∗ side m n c)
      ∗ ∃ Wd, owes (c : Thread nD τ) (dueFrom c n) Wd) := by
  unfold st
  rw [StableHlo.held_sub_split (c : Thread nD τ) hA]
  iintro ⟨⟨HA, HS⟩, HO, -, Hs⟩
  isplitl [HA]; · iexact HA
  isplitr; · iempintro
  isplitl [HS Hs]
  · isplitl [HS] <;> iassumption
  iexact HO
theorem lay_post {n : ℕ} {V : Valuation τ sig (Elt F)} {W : Valuation τ sig (Elt F)} {V' : Dev nD → Valuation τ sig (Elt F)} {A : Finset (DevRef τ sig)} (hA : A ⊆ Pipeline.ucRefs τ sig) {c : Dev nD}
    (h : ∀ b ∈ Pipeline.ucRefs τ sig, W b = V' c b) (h' : ∀ b ∈ Pipeline.ucRefs τ sig \ A, W b = V b) :
    iprop(StableHlo.held (c : Thread nD τ) A W ∗ emp ∗ (StableHlo.held (c : Thread nD τ) (Pipeline.ucRefs τ sig \ A) V ∗ side m n c)
      ∗ ∃ Wd, owes (c : Thread nD τ) (dueFrom c n) Wd) ⊢ st m V' n c := by
  unfold st
  rw [← StableHlo.held_congr (c : Thread nD τ) h, StableHlo.held_sub_split (c : Thread nD τ) hA, StableHlo.held_congr (c : Thread nD τ) h']
  iintro ⟨HA, -, ⟨HS, Hs⟩, HO⟩
  isplitl [HA HS]
  · isplitl [HA] <;> iassumption
  isplitl [HO]; · iexact HO
  isplitr; · iempintro
  iexact Hs

theorem stage0 (w : Fin 4) (s : Fin (spec0 w).nbuf) : role (.dma ((spec0 w).sem s)) = .other := by revert w s; decide
theorem scoped0 (c : Dev nD) : (Pipeline.scopedRest spec0 c : sProp 𝕄)
    = iprop((∃ f : S64x2048.Idx → Elt F .f32, owns (c : Thread nD τ) (Memref.whole cc0_scratch0) fullShare f) ∗ Pipeline.scopedRestBut spec0 c [cc0_scratch0]) := by
  rw [scopedRest0_split]
  simp only [owns_whole]
  rfl
theorem in0 (V : Dev nD → Valuation τ sig (Elt F)) (D : Dev nD → CellTallies nD τ sig Unit) (c : Dev nD) : iprop(Pipeline.scopedRest spec0 c ∗ emp) ⊢ (dat0 V D c).Φ 0 :=
  lay_in c (Pipeline.scopedRestBut spec0 c [cc0_scratch0]) _ (Memref.whole cc0_scratch0) (layX0 V c) (layI0 V c) (layO0 V c) (scoped0 c)
theorem last0 (V : Dev nD → Valuation τ sig (Elt F)) (D : Dev nD → CellTallies nD τ sig Unit) (c : Dev nD) : (dat0 V D c).Φ (Fin.last cfg0.N) ⊢ iprop(Pipeline.scopedRest spec0 c ∗ emp) :=
  lay_out c (Pipeline.scopedRestBut spec0 c [cc0_scratch0]) _ (Memref.whole cc0_scratch0) (layX0 V c) (layI0 V c) (layO0 V c) (scoped0 c) cfg0.N
set_option backward.isDefEq.respectTransparency.types false in
def reg0 : ℝ 0 :=
  Pipeline.RegionSeg.ofHeldIn (pcfgs (F := F)) adm (pdats m) () defs₀ 𝒱₀ L lv 0 (fun c => dueFrom c 0) (Pipeline.ucRefs τ sig) (fun _ => iprop(emp)) (fun _ => iprop(emp))
    launch0.toP rfl (fun c => (body0 (V0 m) c (fun c => dueFrom c 0)).loose) (fun _ _ => rfl) (fun _ => rfl) (fun c w => ite_self _)
    (fun c => in0 (V0 m) (fun c => dueFrom c 0) c) (fun c => last0 (V0 m) (fun c => dueFrom c 0) c)
    (fun _ => 0) ⟨fun c w s => L_stage _ c (), fun c w s => lv_stage _ (stage0 w s) c (), fun c g i h => due_pos c 0 g i h⟩
    (side m 0) (V0 m) (fun _ _ => rfl)
theorem arrs0 : Pipeline.arrRefs (τ := τ) spec0 ⊆ Pipeline.ucRefs τ sig := Pipeline.arrRefs_sub_ucRefs spec0 (by decide)
theorem keep0 (c : Dev nD) : ∀ b ∈ Pipeline.ucRefs τ sig, Pipeline.afterRegion (dat0 (V0 m) (fun c => dueFrom c 0) c) (V0 m c) b = V1 m (outsM m) c b :=
  region_keeps (dat0 (V0 m) (fun c => dueFrom c 0) c) (V0 m c) launch0.win.arr_inj (fun _ => rfl) (3 : Fin 4) (by decide) main_v1 rfl _
    ((Pipeline.afterRegion_arr (dat0 (V0 m) (fun c => dueFrom c 0) c) (V0 m c) launch0.win.arr_inj (3 : Fin 4)).trans ((end0 m c).trans ((out1 m c).trans (v1_val m c).symm))) (V1_of m (outsM m) c)
theorem reg0_pre (c : Dev nD) : st m (V0 m) 0 c ⊢ (reg0 m).pre c := by
  show _ ⊢ iprop(StableHlo.held (c.tc : Thread nD τ) (Pipeline.arrRefs (pcfgs (F := F) 0).spec) (V0 m c) ∗ emp
    ∗ (StableHlo.held (c.tc : Thread nD τ) (Pipeline.ucRefs τ sig \ Pipeline.arrRefs (pcfgs (F := F) 0).spec) (V0 m c) ∗ side m 0 c) ∗ ∃ Wd, owes (c : Thread nD τ) (dueFrom c 0) Wd)
  exact lay_pre m 0 (V0 m) arrs0 c
theorem reg0_post (c : Dev nD) : (reg0 m).post c ⊢ st m (V1 m (outsM m)) 0 c := by
  show iprop(StableHlo.held (c.tc : Thread nD τ) (Pipeline.arrRefs (pcfgs (F := F) 0).spec) (Pipeline.afterRegion (dat0 (V0 m) (fun c => dueFrom c 0) c) (V0 m c)) ∗ emp
    ∗ (StableHlo.held (c.tc : Thread nD τ) (Pipeline.ucRefs τ sig \ Pipeline.arrRefs (pcfgs (F := F) 0).spec) (V0 m c) ∗ side m 0 c) ∗ ∃ Wd, owes (c : Thread nD τ) (dueFrom c 0) Wd) ⊢ _
  exact lay_post m arrs0 (keep0 m c) (Pipeline.afterRegion_off (dat0 (V0 m) (fun c => dueFrom c 0) c) (V0 m c) _)

theorem stage2 (w : Fin 4) (s : Fin (spec2 w).nbuf) : role (.dma ((spec2 w).sem s)) = .other := by revert w s; decide
theorem scoped2 (c : Dev nD) : (Pipeline.scopedRest spec2 c : sProp 𝕄)
    = iprop((∃ f : S64x2048.Idx → Elt F .f32, owns (c : Thread nD τ) (Memref.whole cc2_scratch0) fullShare f) ∗ Pipeline.scopedRestBut spec2 c [cc2_scratch0]) := by
  rw [scopedRest2_split]
  simp only [owns_whole]
  rfl
theorem in2 (V : Dev nD → Valuation τ sig (Elt F)) (D : Dev nD → CellTallies nD τ sig Unit) (c : Dev nD) : iprop(Pipeline.scopedRest spec2 c ∗ emp) ⊢ (dat2 V D c).Φ 0 :=
  lay_in c (Pipeline.scopedRestBut spec2 c [cc2_scratch0]) _ (Memref.whole cc2_scratch0) (layX2 V c) (layI2 V c) (layO2 V c) (scoped2 c)
theorem last2 (V : Dev nD → Valuation τ sig (Elt F)) (D : Dev nD → CellTallies nD τ sig Unit) (c : Dev nD) : (dat2 V D c).Φ (Fin.last cfg2.N) ⊢ iprop(Pipeline.scopedRest spec2 c ∗ emp) :=
  lay_out c (Pipeline.scopedRestBut spec2 c [cc2_scratch0]) _ (Memref.whole cc2_scratch0) (layX2 V c) (layI2 V c) (layO2 V c) (scoped2 c) cfg2.N
set_option backward.isDefEq.respectTransparency.types false in
def reg2 : ℝ 2 :=
  Pipeline.RegionSeg.ofHeldIn (pcfgs (F := F)) adm (pdats m) () defs₀ 𝒱₀ L lv 2 (fun c => dueFrom c 1) (Pipeline.ucRefs τ sig) (fun _ => iprop(emp)) (fun _ => iprop(emp))
    launch2.toP rfl (fun c => (body2 (V2 m (outsM m)) c (fun c => dueFrom c 1)).loose) (fun _ _ => rfl) (fun _ => rfl) (fun c w => ite_self _)
    (fun c => in2 (V2 m (outsM m)) (fun c => dueFrom c 1) c) (fun c => last2 (V2 m (outsM m)) (fun c => dueFrom c 1) c)
    (fun _ => 0) ⟨fun c w s => L_stage _ c (), fun c w s => lv_stage _ (stage2 w s) c (), fun c g i h => due_pos c 1 g i h⟩
    (side m 1) (V2 m (outsM m)) (fun _ _ => rfl)
theorem arrs2 : Pipeline.arrRefs (τ := τ) spec2 ⊆ Pipeline.ucRefs τ sig := Pipeline.arrRefs_sub_ucRefs spec2 (by decide)
theorem keep2 (c : Dev nD) : ∀ b ∈ Pipeline.ucRefs τ sig, Pipeline.afterRegion (dat2 (V2 m (outsM m)) (fun c => dueFrom c 1) c) (V2 m (outsM m) c) b = V3 m (outsM m) c b :=
  region_keeps (dat2 (V2 m (outsM m)) (fun c => dueFrom c 1) c) (V2 m (outsM m) c) launch2.win.arr_inj (fun _ => rfl) (3 : Fin 4) (by decide) main_v3 rfl _
    ((Pipeline.afterRegion_arr (dat2 (V2 m (outsM m)) (fun c => dueFrom c 1) c) (V2 m (outsM m) c) launch2.win.arr_inj (3 : Fin 4)).trans ((end2 m c).trans ((out3 m c).trans (v3_val m c).symm))) (V3_of m (outsM m) c)
theorem reg2_pre (c : Dev nD) : st m (V2 m (outsM m)) 1 c ⊢ (reg2 m).pre c := by
  show _ ⊢ iprop(StableHlo.held (c.tc : Thread nD τ) (Pipeline.arrRefs (pcfgs (F := F) 2).spec) (V2 m (outsM m) c) ∗ emp
    ∗ (StableHlo.held (c.tc : Thread nD τ) (Pipeline.ucRefs τ sig \ Pipeline.arrRefs (pcfgs (F := F) 2).spec) (V2 m (outsM m) c) ∗ side m 1 c) ∗ ∃ Wd, owes (c : Thread nD τ) (dueFrom c 1) Wd)
  exact lay_pre m 1 (V2 m (outsM m)) arrs2 c
theorem reg2_post (c : Dev nD) : (reg2 m).post c ⊢ st m (V3 m (outsM m)) 1 c := by
  show iprop(StableHlo.held (c.tc : Thread nD τ) (Pipeline.arrRefs (pcfgs (F := F) 2).spec) (Pipeline.afterRegion (dat2 (V2 m (outsM m)) (fun c => dueFrom c 1) c) (V2 m (outsM m) c)) ∗ emp
    ∗ (StableHlo.held (c.tc : Thread nD τ) (Pipeline.ucRefs τ sig \ Pipeline.arrRefs (pcfgs (F := F) 2).spec) (V2 m (outsM m) c) ∗ side m 1 c) ∗ ∃ Wd, owes (c : Thread nD τ) (dueFrom c 1) Wd) ⊢ _
  exact lay_post m arrs2 (keep2 m c) (Pipeline.afterRegion_off (dat2 (V2 m (outsM m)) (fun c => dueFrom c 1) c) (V2 m (outsM m) c) _)

theorem stage4 (w : Fin 4) (s : Fin (spec4 w).nbuf) : role (.dma ((spec4 w).sem s)) = .other := by revert w s; decide
theorem scoped4 (c : Dev nD) : (Pipeline.scopedRest spec4 c : sProp 𝕄)
    = iprop((∃ f : S64x2048.Idx → Elt F .f32, owns (c : Thread nD τ) (Memref.whole cc4_scratch0) fullShare f) ∗ Pipeline.scopedRestBut spec4 c [cc4_scratch0]) := by
  rw [scopedRest4_split]
  simp only [owns_whole]
  rfl
theorem in4 (V : Dev nD → Valuation τ sig (Elt F)) (D : Dev nD → CellTallies nD τ sig Unit) (c : Dev nD) : iprop(Pipeline.scopedRest spec4 c ∗ emp) ⊢ (dat4 V D c).Φ 0 :=
  lay_in c (Pipeline.scopedRestBut spec4 c [cc4_scratch0]) _ (Memref.whole cc4_scratch0) (layX4 V c) (layI4 V c) (layO4 V c) (scoped4 c)
theorem last4 (V : Dev nD → Valuation τ sig (Elt F)) (D : Dev nD → CellTallies nD τ sig Unit) (c : Dev nD) : (dat4 V D c).Φ (Fin.last cfg4.N) ⊢ iprop(Pipeline.scopedRest spec4 c ∗ emp) :=
  lay_out c (Pipeline.scopedRestBut spec4 c [cc4_scratch0]) _ (Memref.whole cc4_scratch0) (layX4 V c) (layI4 V c) (layO4 V c) (scoped4 c) cfg4.N
set_option backward.isDefEq.respectTransparency.types false in
def reg4 : ℝ 4 :=
  Pipeline.RegionSeg.ofHeldIn (pcfgs (F := F)) adm (pdats m) () defs₀ 𝒱₀ L lv 4 (fun c => dueFrom c 2) (Pipeline.ucRefs τ sig) (fun _ => iprop(emp)) (fun _ => iprop(emp))
    launch4.toP rfl (fun c => (body4 (V4 m (outsM m)) c (fun c => dueFrom c 2)).loose) (fun _ _ => rfl) (fun _ => rfl) (fun c w => ite_self _)
    (fun c => in4 (V4 m (outsM m)) (fun c => dueFrom c 2) c) (fun c => last4 (V4 m (outsM m)) (fun c => dueFrom c 2) c)
    (fun _ => 0) ⟨fun c w s => L_stage _ c (), fun c w s => lv_stage _ (stage4 w s) c (), fun c g i h => due_pos c 2 g i h⟩
    (side m 2) (V4 m (outsM m)) (fun _ _ => rfl)
theorem arrs4 : Pipeline.arrRefs (τ := τ) spec4 ⊆ Pipeline.ucRefs τ sig := Pipeline.arrRefs_sub_ucRefs spec4 (by decide)
theorem keep4 (c : Dev nD) : ∀ b ∈ Pipeline.ucRefs τ sig, Pipeline.afterRegion (dat4 (V4 m (outsM m)) (fun c => dueFrom c 2) c) (V4 m (outsM m) c) b = V5 m (outsM m) c b :=
  region_keeps (dat4 (V4 m (outsM m)) (fun c => dueFrom c 2) c) (V4 m (outsM m) c) launch4.win.arr_inj (fun _ => rfl) (3 : Fin 4) (by decide) main_v5 rfl _
    ((Pipeline.afterRegion_arr (dat4 (V4 m (outsM m)) (fun c => dueFrom c 2) c) (V4 m (outsM m) c) launch4.win.arr_inj (3 : Fin 4)).trans ((end4 m c).trans ((out5 m c).trans (v5_val m c).symm))) (V5_of m (outsM m) c)
theorem reg4_pre (c : Dev nD) : st m (V4 m (outsM m)) 2 c ⊢ (reg4 m).pre c := by
  show _ ⊢ iprop(StableHlo.held (c.tc : Thread nD τ) (Pipeline.arrRefs (pcfgs (F := F) 4).spec) (V4 m (outsM m) c) ∗ emp
    ∗ (StableHlo.held (c.tc : Thread nD τ) (Pipeline.ucRefs τ sig \ Pipeline.arrRefs (pcfgs (F := F) 4).spec) (V4 m (outsM m) c) ∗ side m 2 c) ∗ ∃ Wd, owes (c : Thread nD τ) (dueFrom c 2) Wd)
  exact lay_pre m 2 (V4 m (outsM m)) arrs4 c
theorem reg4_post (c : Dev nD) : (reg4 m).post c ⊢ st m (V5 m (outsM m)) 2 c := by
  show iprop(StableHlo.held (c.tc : Thread nD τ) (Pipeline.arrRefs (pcfgs (F := F) 4).spec) (Pipeline.afterRegion (dat4 (V4 m (outsM m)) (fun c => dueFrom c 2) c) (V4 m (outsM m) c)) ∗ emp
    ∗ (StableHlo.held (c.tc : Thread nD τ) (Pipeline.ucRefs τ sig \ Pipeline.arrRefs (pcfgs (F := F) 4).spec) (V4 m (outsM m) c) ∗ side m 2 c) ∗ ∃ Wd, owes (c : Thread nD τ) (dueFrom c 2) Wd) ⊢ _
  exact lay_post m arrs4 (keep4 m c) (Pipeline.afterRegion_off (dat4 (V4 m (outsM m)) (fun c => dueFrom c 2) c) (V4 m (outsM m) c) _)

end Cert.KernelIdeal.Hand

end
-- ==== Proof.TalkRegs.lean ====
/- The talking calls as segments of the program. -/
module

public import proofs.«01_k».proof.Proof.LayerRegs

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

variable [∀ e, Nonempty (Elt F e)] (m : (ℓ : Loc nD τ sig) → Buf (Elt F) ℓ)

local notation "ℝ" => Pipeline.RegionSeg (pcfgs (F := F)) adm (pdats m) () defs₀ 𝒱₀ L lv

theorem stage1 (w : Fin 2) (s : Fin (spec1 w).nbuf) : role (.dma ((spec1 w).sem s)) = .other := by revert w s; decide
theorem res1 : (Proc.devRef .tc main_v2 : DevRef τ sig) ∈ Pipeline.arrRefs (τ := τ) spec1 := Finset.mem_map.mpr ⟨_, Finset.mem_image.mpr ⟨(1 : Fin 2), Finset.mem_univ _, rfl⟩, rfl⟩
set_option backward.isDefEq.respectTransparency.types false in
def reg1 : ℝ 1 :=
  Pipeline.RegionSeg.ofTalk (pcfgs (F := F)) adm (pdats m) () defs₀ 𝒱₀ L lv 1 (osem 0) (by decide : Pipeline.OwnSemFacts spec1 (osem 0))
    ∅ (Pipeline.ucRefs τ sig \ Pipeline.arrRefs spec1) (Finset.empty_subset _) launch1.toP rfl (fun c => (body1 (pvM m) (V1 m (outsM m)) c (v1_val m c)).loose)
    (fun c => dueFrom c (0 + 1)) (callO 0) (fun c => (due_split 0 c).trans (add_comm _ _)) (fun _ => rfl) (fun _ => rfl) (fun c w => ite_self _)
    (V1 m (outsM m)) (V2 m (outsM m)) (fun c b hb => Function.update_of_ne (fun e => (Finset.mem_sdiff.mp (Finset.mem_sdiff.mp hb).1).2 (by rw [e]; exact res1)) _ _)
    (fun c => talkT c 0 (pvM m)) (fun c => talkY c 0) (fun c => talkX c 0 (pvM m)) (fun c => talkY c 0)
    (fun c => talk_open c 0) (fun c => talk_in c 0 _ _ _ (Entails.of_eq (scoped1 c)))
    (fun c => talk_out (pv := pvM m) c 0 (Pipeline.scopedRestBut spec1 c [cc1_scratch0, cc1_scratch1]) cfg1.N (by decide) _ _ (Entails.of_eq (scoped1 c).symm) (held_none c _))
    (fun c => by iintro H; imodintro; iexact H)
    (fun _ => 0) ⟨fun c w s => L_stage _ c (), fun c w s => lv_stage _ (stage1 w s) c (), fun c t g i h => due_pos c (0 + t.val) g i h⟩
    (fun c => protE m c 0) (fun _ _ => rfl)
    (fun c (w : Fin 2) => match w with
      | 0 => ((dat1 (pvM m) (V1 m (outsM m)) c).arrAt_in 0 rfl _).trans (V2_of m (outsM m) c main_v1 (by decide)).symm
      | 1 => end1 m c)
theorem reg1_pre (c : Dev nD) : st m (V1 m (outsM m)) 0 c ⊢ (reg1 m).pre c := talk_pre 0 (V1 m (outsM m)) (Pipeline.arrRefs_sub_ucRefs spec1 (by decide))
theorem reg1_post (c : Dev nD) : (reg1 m).post c ⊢ st m (V2 m (outsM m)) (0 + 1) c := talk_post 0 (V2 m (outsM m)) (Pipeline.arrRefs_sub_ucRefs spec1 (by decide))

theorem stage3 (w : Fin 2) (s : Fin (spec3 w).nbuf) : role (.dma ((spec3 w).sem s)) = .other := by revert w s; decide
theorem res3 : (Proc.devRef .tc main_v4 : DevRef τ sig) ∈ Pipeline.arrRefs (τ := τ) spec3 := Finset.mem_map.mpr ⟨_, Finset.mem_image.mpr ⟨(1 : Fin 2), Finset.mem_univ _, rfl⟩, rfl⟩
set_option backward.isDefEq.respectTransparency.types false in
def reg3 : ℝ 3 :=
  Pipeline.RegionSeg.ofTalk (pcfgs (F := F)) adm (pdats m) () defs₀ 𝒱₀ L lv 3 (osem 1) (by decide : Pipeline.OwnSemFacts spec3 (osem 1))
    ∅ (Pipeline.ucRefs τ sig \ Pipeline.arrRefs spec3) (Finset.empty_subset _) launch3.toP rfl (fun c => (body3 (pvM m) (V3 m (outsM m)) c (v3_val m c)).loose)
    (fun c => dueFrom c (1 + 1)) (callO 1) (fun c => (due_split 1 c).trans (add_comm _ _)) (fun _ => rfl) (fun _ => rfl) (fun c w => ite_self _)
    (V3 m (outsM m)) (V4 m (outsM m)) (fun c b hb => Function.update_of_ne (fun e => (Finset.mem_sdiff.mp (Finset.mem_sdiff.mp hb).1).2 (by rw [e]; exact res3)) _ _)
    (fun c => talkT c 1 (pvM m)) (fun c => talkY c 1) (fun c => talkX c 1 (pvM m)) (fun c => talkY c 1)
    (fun c => talk_open c 1) (fun c => talk_in c 1 _ _ _ (Entails.of_eq (scoped3 c)))
    (fun c => talk_out (pv := pvM m) c 1 (Pipeline.scopedRestBut spec3 c [cc3_scratch0, cc3_scratch1]) cfg3.N (by decide) _ _ (Entails.of_eq (scoped3 c).symm) (held_none c _))
    (fun c => by iintro H; imodintro; iexact H)
    (fun _ => 0) ⟨fun c w s => L_stage _ c (), fun c w s => lv_stage _ (stage3 w s) c (), fun c t g i h => due_pos c (1 + t.val) g i h⟩
    (fun c => protE m c 1) (fun _ _ => rfl)
    (fun c (w : Fin 2) => match w with
      | 0 => ((dat3 (pvM m) (V3 m (outsM m)) c).arrAt_in 0 rfl _).trans (V4_of m (outsM m) c main_v3 (by decide)).symm
      | 1 => end3 m c)
theorem reg3_pre (c : Dev nD) : st m (V3 m (outsM m)) 1 c ⊢ (reg3 m).pre c := talk_pre 1 (V3 m (outsM m)) (Pipeline.arrRefs_sub_ucRefs spec3 (by decide))
theorem reg3_post (c : Dev nD) : (reg3 m).post c ⊢ st m (V4 m (outsM m)) (1 + 1) c := talk_post 1 (V4 m (outsM m)) (Pipeline.arrRefs_sub_ucRefs spec3 (by decide))

theorem stage5 (w : Fin 2) (s : Fin (spec5 w).nbuf) : role (.dma ((spec5 w).sem s)) = .other := by revert w s; decide
theorem res5 : (Proc.devRef .tc main_v6 : DevRef τ sig) ∈ Pipeline.arrRefs (τ := τ) spec5 := Finset.mem_map.mpr ⟨_, Finset.mem_image.mpr ⟨(1 : Fin 2), Finset.mem_univ _, rfl⟩, rfl⟩
set_option backward.isDefEq.respectTransparency.types false in
def reg5 : ℝ 5 :=
  Pipeline.RegionSeg.ofTalk (pcfgs (F := F)) adm (pdats m) () defs₀ 𝒱₀ L lv 5 (osem 2) (by decide : Pipeline.OwnSemFacts spec5 (osem 2))
    ∅ (Pipeline.ucRefs τ sig \ Pipeline.arrRefs spec5) (Finset.empty_subset _) launch5.toP rfl (fun c => (body5 (pvM m) (V5 m (outsM m)) c (v5_val m c)).loose)
    (fun c => dueFrom c (2 + 1)) (callO 2) (fun c => (due_split 2 c).trans (add_comm _ _)) (fun _ => rfl) (fun _ => rfl) (fun c w => ite_self _)
    (V5 m (outsM m)) (V6 m (outsM m)) (fun c b hb => Function.update_of_ne (fun e => (Finset.mem_sdiff.mp (Finset.mem_sdiff.mp hb).1).2 (by rw [e]; exact res5)) _ _)
    (fun c => talkT c 2 (pvM m)) (fun c => talkY c 2) (fun c => talkX c 2 (pvM m)) (fun c => talkY c 2)
    (fun c => talk_open c 2) (fun c => talk_in c 2 _ _ _ (Entails.of_eq (scoped5 c)))
    (fun c => talk_out (pv := pvM m) c 2 (Pipeline.scopedRestBut spec5 c [cc5_scratch0, cc5_scratch1]) cfg5.N (by decide) _ _ (Entails.of_eq (scoped5 c).symm) (held_none c _))
    (fun c => by iintro H; imodintro; iexact H)
    (fun _ => 0) ⟨fun c w s => L_stage _ c (), fun c w s => lv_stage _ (stage5 w s) c (), fun c t g i h => due_pos c (2 + t.val) g i h⟩
    (fun c => protE m c 2) (fun _ _ => rfl)
    (fun c (w : Fin 2) => match w with
      | 0 => ((dat5 (pvM m) (V5 m (outsM m)) c).arrAt_in 0 rfl _).trans (V6_of m (outsM m) c main_v5 (by decide)).symm
      | 1 => end5 m c)
theorem reg5_pre (c : Dev nD) : st m (V5 m (outsM m)) 2 c ⊢ (reg5 m).pre c := talk_pre 2 (V5 m (outsM m)) (Pipeline.arrRefs_sub_ucRefs spec5 (by decide))
theorem reg5_post (c : Dev nD) : (reg5 m).post c ⊢ st m (V6 m (outsM m)) (2 + 1) c := talk_post 2 (V6 m (outsM m)) (Pipeline.arrRefs_sub_ucRefs spec5 (by decide))

end Cert.KernelIdeal.Hand

end
-- ==== Proof.Launch.lean ====
/- The launch of the whole program and its run. -/
module

public import proofs.«01_k».proof.Proof.Deal
public import proofs.«01_k».proof.Proof.TalkRegs

@[expose] public section

set_option synthInstance.maxSize 4096

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

attribute [local irreducible] outv sumv layv

variable [∀ e, Nonempty (Elt F e)] (m : (ℓ : Loc nD τ sig) → Buf (Elt F) ℓ) (ρ : Dev nD → PrngReg)

/-- The launch element: the pipelines' at their staging cells, the protocol's at its cells. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's launch element, kept on device 0 until it is dealt. -/
def seed : sProp 𝕄 := BI.own (ER (launchOf barCells scCells talkToks))
def G (c : Dev nD) : sProp 𝕄 := if c = 0 then seed else iprop(emp)
theorem G_all : bigSep Finset.univ (G (F := F)) = seed := by
  rw [bigSep_univ_at _ (0 : Dev nD), bigSep_congr (s := Finset.univ.erase 0) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- What a device has at the launch besides the counters and the seed. -/
def bundle (c : Dev nD) : sProp 𝕄 :=
  iprop(StableHlo.held (c : Thread nD τ) (Pipeline.ucRefs τ sig) (V0 m c) ∗ bigSep Finset.univ (crC c) ∗ owes (c : Thread nD τ) (dueFrom c 0) ∅ ∗ ∃ r, prngReg c r)

theorem core_split (c : Dev nD) :
    iprop(unscopedBufs c (fun b => m ((c.tc : Thread nD τ).loc b)) ∗ unscopedSems0 c ∗ owes (c.tc : Thread nD τ) (dueFrom c 0) ∅
        ∗ Pipeline.launchCred (fun c => dueFrom c 0) c ∗ prngReg c (ρ c) ∗ G c)
      ⊢ (iprop(bundle m c ∗ (bigSep Finset.univ fun k : Fin 3 => semVal (bCell k c) 0) ∗ G c) : sProp 𝕄) := by
  rw [show (unscopedBufs c (fun b => m ((c.tc : Thread nD τ).loc b)) : sProp 𝕄) = StableHlo.held (c : Thread nD τ) (Pipeline.ucRefs τ sig) (V0 m c) from
    Pipeline.unscopedBufs_held (Ix := Unit) (Name := ℕ) (U := UU) (Lvl := ℕ) c (V0 m c), unscoped_eq]
  unfold bundle
  iintro ⟨Hh, Hus, HO, Hcr, Hp, HG⟩
  ihave Hc := (cred_deal (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- A device's part of the dealt protocol, by call. -/
def part (c : Dev nD) : sProp 𝕄 := bigSep Finset.univ fun k : Fin 3 => iprop(atC c k ∗ opC c k ∗ tbC c k ∗ tdC c k)

theorem start_intro (κ : GSem nD τ sig → ℕ) (c : Dev nD) : iprop(records (pvM m) κ ∗ (part c ∗ bundle m c)) ⊢ st m (V0 m) 0 c := by
  unfold bundle part st side
  have hall : iprop((bigSep Finset.univ fun k : Fin 3 => iprop(atC c k ∗ opC c k ∗ tbC c k ∗ tdC c k)) ∗ bigSep Finset.univ (crC c)) ⊢ (bigSep Finset.univ fun k : Fin 3 => lin c k : sProp 𝕄) := by
    rw [← bigSep_sep']
    refine bigSep_mono fun k _ => (?_ : iprop((atC c k ∗ opC c k ∗ tbC c k ∗ tdC c k) ∗ crC c k) ⊢ (lin c k : sProp 𝕄))
    iintro ⟨⟨Ha, Ho, Hb, Hd⟩, Hc⟩
    iapply (lin_intro c k)
    isplitl [Ha]; · iexact Ha
    isplitl [Ho]; · iexact Ho
    isplitl [Hb]; · iexact Hb
    isplitl [Hd] <;> iassumption
  iintro ⟨#HR, HP, Hh, Hcr, HO, Hp⟩
  ihave #HC := (records_ctx (pvM m) κ) $$ HR
  ihave Hl := hall $$ [HP Hcr]
  · isplitl [HP] <;> iassumption
  ihave Hl' := (Entails.of_eq (bigSep_3 (fun k : Fin 3 => (lin c k : sProp 𝕄)))) $$ Hl
  icases Hl' with ⟨H0, H1, H2⟩
  isplitl [Hh]; · iexact Hh
  isplitl [HO]; · iexists ∅; iexact HO
  isplitr; · iempintro
  isplitl [Hp]; · iexact Hp
  iapply (show iprop(talkT c 0 (pvM m) ∗ talkT c 1 (pvM m) ∗ talkT c 2 (pvM m)) ⊢ prot m c 0 from .rfl)
  unfold talkT
  isplitl [H0]
  · iexists κ; isplitr; · iexact HC
    iexact H0
  isplitl [H1]
  · iexists κ; isplitr; · iexact HC
    iexact H1
  · iexists κ; isplitr; · iexact HC
    iexact H2

theorem init :
    iprop((bigSep Finset.univ fun c : Dev nD => iprop(unscopedBufs c (fun b => m ((c.tc : Thread nD τ).loc b)) ∗ unscopedSems0 c
          ∗ owes (c.tc : Thread nD τ) (dueFrom c 0) ∅ ∗ Pipeline.launchCred (fun c => dueFrom c 0) c ∗ prngReg c (ρ c) ∗ G c)) ∗ levAts L lv)
      ⊢ (|={Set.univ}=> bigSep Finset.univ (st m (V0 m) 0) : sProp 𝕄) := by
  iintro ⟨H, #HL⟩
  ihave H' := (show (bigSep Finset.univ fun c : Dev nD => iprop(unscopedBufs c (fun b => m ((c.tc : Thread nD τ).loc b)) ∗ unscopedSems0 c
          ∗ owes (c.tc : Thread nD τ) (dueFrom c 0) ∅ ∗ Pipeline.launchCred (fun c => dueFrom c 0) c ∗ prngReg c (ρ c) ∗ G c))
      ⊢ (bigSep Finset.univ fun c : Dev nD => iprop(bundle m c ∗ (bigSep Finset.univ fun k : Fin 3 => semVal (bCell k c) 0) ∗ G c) : sProp 𝕄) from bigSep_mono fun c _ => core_split m ρ c) $$ H
  ihave H2 := (Entails.of_eq (bigSep_sep' Finset.univ _ _)) $$ H'; icases H2 with ⟨HB, H3⟩
  ihave H4 := (Entails.of_eq (bigSep_sep' Finset.univ _ _)) $$ H3; icases H4 with ⟨Hv, HG⟩
  ihave Hu := (show bigSep Finset.univ (G (F := F)) ⊢ BI.own (ER (launchOf barCells scCells talkToks)) from Entails.of_eq (G_all (F := F))) $$ HG
  imod (Rounds.fund_launch ER (talkRd (xvOf (pvM m)) (gvOf (pvM m))) disjoint_cells (fun g _ h => h) talkToks) $$ [Hv Hu] with ⟨%κ, -, #Hinv, #Hr, Hat, Hopen, Htok⟩
  · isplitl [Hv]
    · iapply (Entails.of_eq (val_deal (F := F)).symm) $$ Hv
    · iexact Hu
  imodintro
  iapply (bigSep_with_persistent (R := records (pvM m) κ) (Φ := fun c => iprop(part c ∗ bundle m c)) fun c _ => start_intro m κ c)
  isplitr
  · unfold records
    isplitr; · iexact HL
    isplitr; · iexact Hinv
    iexact Hr
  iapply (Entails.of_eq (bigSep_sep' Finset.univ (fun c => part (F := F) c) (fun c => bundle m c)).symm)
  isplitr [HB]
  · have hp : iprop((bigSep Finset.univ fun c : Dev nD => bigSep Finset.univ (atC c)) ∗ (bigSep Finset.univ fun c : Dev nD => bigSep Finset.univ (opC c))
        ∗ (bigSep Finset.univ fun c : Dev nD => bigSep Finset.univ (tbC c)) ∗ bigSep Finset.univ fun c : Dev nD => bigSep Finset.univ (tdC c)) ⊢ (bigSep Finset.univ fun c : Dev nD => part c : sProp 𝕄) := by
      rw [← bigSep_sep', ← bigSep_sep', ← bigSep_sep']
      refine bigSep_mono fun c _ => ?_
      rw [← bigSep_sep', ← bigSep_sep', ← bigSep_sep']
      exact BI.Entails.refl _
    iapply hp
    isplitl [Hat]; · iapply (Entails.of_eq (at_deal (F := F))) $$ Hat
    isplitl [Hopen]; · iapply (Entails.of_eq (op_deal (F := F))) $$ Hopen
    iapply (Entails.of_eq (tok_deal (F := F))) $$ Htok
  · iexact HB

/-! ## The run -/

/-- The program as its six calls. -/
def calls (c : Dev nD) : List (Pipeline.Seg (pcfgs (F := F)) adm (pdats m) () defs₀ 𝒱₀ L lv) :=
  [.region (reg0 m), .region (reg1 m), .region (reg2 m), .region (reg3 m), .region (reg4 m), .region (reg5 m)]

/-- What a device holds at the end, besides owing nothing. -/
def fin (c : Dev nD) : sProp 𝕄 := iprop(StableHlo.held (c : Thread nD τ) (Pipeline.ucRefs τ sig) (V6 m (outsM m) c) ∗ (talkY c 0 ∗ talkY c 1 ∗ talkY c 2))
theorem st_fin (c : Dev nD) : st m (V6 m (outsM m)) (2 + 1) c ⊢ iprop(fin m c ∗ ∃ W, owes (c : Thread nD τ) (0 : CellTallies nD τ sig Unit) W) := by
  unfold st side fin
  show iprop(StableHlo.held (c : Thread nD τ) (Pipeline.ucRefs τ sig) (V6 m (outsM m) c) ∗ ((∃ W, owes (c : Thread nD τ) (0 : CellTallies nD τ sig Unit) W) ∗ emp ∗ (∃ r, prngReg c r) ∗ (talkY c 0 ∗ talkY c 1 ∗ talkY c 2))) ⊢ _
  iintro ⟨Hh, HO, -, -, HY⟩
  isplitr [HO]
  · isplitl [Hh] <;> iassumption
  · iexact HO

/-- The buffers the claims speak of: the arguments as launched, the result at its contents. -/
def ends (c : Dev nD) (s : MemSt nD τ sig (Elt F)) : Prop :=
  s.mem ((c.tc : Thread nD τ).loc main_v6) = cR m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)

set_option backward.isDefEq.respectTransparency.types false in
theorem fin_read (c : Dev nD) (s' : Phys nD τ sig (Elt F)) :
    iprop(fin m c ∗ SI s') ⊢ (|={Set.univ}=> iprop(⌜ends m c s'.mem ∧ ∀ k : Fin 3, s'.mem.sem (bCell k c) = 0⌝ ∗ SI s') : sProp 𝕄) := by
  unfold fin StableHlo.held talkY
  iintro ⟨⟨Hh, H0, H1, H2⟩, HSI⟩
  icombine HSI H0 gives %h0
  icombine HSI H1 gives %h1
  icombine HSI H2 gives %h2
  ihave Hr := (pointsTo_read_all (Pipeline.ucRefs τ sig) (fun b => ((c : Thread nD τ).1, b)) (V6 m (outsM m) c) s') $$ [Hh HSI]
  · isplitl [Hh] <;> iassumption
  icases Hr with ⟨%h, HSI⟩
  imodintro
  isplitr
  · ipureintro
    refine ⟨⟨?_, ?_, ?_, ?_, ?_, ?_, ?_, ?_⟩, fun k => ?_⟩
    · exact (h (Proc.devRef .tc main_v6) (Finset.mem_filter.mpr ⟨StableHlo.devRef_mem_tcRefs main_v6, by decide⟩)).trans (v6_val m c)
    · exact (h (Proc.devRef .tc main_arg0) (Finset.mem_filter.mpr ⟨StableHlo.devRef_mem_tcRefs main_arg0, by decide⟩)).trans (V6_main_arg0 m (outsM m) c)
    · exact (h (Proc.devRef .tc main_arg1) (Finset.mem_filter.mpr ⟨StableHlo.devRef_mem_tcRefs main_arg1, by decide⟩)).trans (V6_main_arg1 m (outsM m) c)
    · exact (h (Proc.devRef .tc main_arg2) (Finset.mem_filter.mpr ⟨StableHlo.devRef_mem_tcRefs main_arg2, by decide⟩)).trans (V6_main_arg2 m (outsM m) c)
    · exact (h (Proc.devRef .tc main_arg3) (Finset.mem_filter.mpr ⟨StableHlo.devRef_mem_tcRefs main_arg3, by decide⟩)).trans (V6_main_arg3 m (outsM m) c)
    · exact (h (Proc.devRef .tc main_arg4) (Finset.mem_filter.mpr ⟨StableHlo.devRef_mem_tcRefs main_arg4, by decide⟩)).trans (V6_main_arg4 m (outsM m) c)
    · exact (h (Proc.devRef .tc main_arg5) (Finset.mem_filter.mpr ⟨StableHlo.devRef_mem_tcRefs main_arg5, by decide⟩)).trans (V6_main_arg5 m (outsM m) c)
    · exact (h (Proc.devRef .tc main_arg6) (Finset.mem_filter.mpr ⟨StableHlo.devRef_mem_tcRefs main_arg6, by decide⟩)).trans (V6_main_arg6 m (outsM m) c)
    · match k with
      | 0 => simpa using h0
      | 1 => simpa using h1
      | 2 => simpa using h2
  iexact HSI

set_option backward.isDefEq.respectTransparency.types false in
/-- From any memory with the counters at zero every weakly fair execution terminates, with the arguments unchanged, the result at `cR` and
    every counter at zero. -/
theorem run : θ_run defs (onTc (τ := τ) (main (F := F))) ⟨m, fun _ => 0, ρ⟩ (fun r => (∀ c : Dev nD, ends m c r.2) ∧ r.2.sem = fun _ => 0) :=
  Pipeline.θ_run_regions_kit_dev_sems (pcfgs (F := F)) adm (pdats m) () cellOf_inj EP defs₀ 𝒱₀ L lv m ρ main (calls m)
    (fun c Q => by
      rewrite [main_chain c, Pipeline.Seg.run_eq_chain,
        show (calls m c).map Pipeline.Seg.prog = [
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()) ] from rfl]
      dsimp (config := { failIfUnchanged := false }) only
      exact .rfl)
    (fun c => by simp only [calls, Pipeline.Seg.pipes_region, Pipeline.Seg.pipes_nil]; decide)
    (O₀ := fun c => dueFrom c 0) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; unfold seed; iexact HX)
    (T₀ := st m (V0 m) 0) (Tₙ := fin m)
    (hch := fun c => ⟨reg0_pre m c, (reg0_post m c).trans (reg1_pre m c), (reg1_post m c).trans (reg2_pre m c), (reg2_post m c).trans (reg3_pre m c),
      (reg3_post m c).trans (reg4_pre m c), (reg4_post m c).trans (reg5_pre m c), (reg5_post m c).trans (st_fin m c)⟩)
    (hinit := init m ρ)
    (QY := fun c s => ends m c s ∧ ∀ k : Fin 3, s.sem (bCell k c) = 0)
    (hfin := fin_read m)
    (hQ := fun s h hs => ⟨fun c => (h c).1, sem_eq_zero hs fun c sm hsm => by
      obtain ⟨k, rfl⟩ := unscoped_bar sm hsm
      exact (h c).2 k⟩)

end Cert.KernelIdeal.Hand

end
-- ==== Proof.Frames.lean ====
/- The machine's runs read at the claims: the arguments unchanged and every counter at zero. -/
module

public import proofs.«01_k».proof.Defs
public import proofs.«01_k».proof.Proof.Launch
public import proofs.«01_k».proof.Proof.Printed.Launch
public import proofs.«01_k».proof.Proof.Gen.ReferenceIdeal.Run

@[expose] public section

noncomputable section

namespace Cert.Proof

open Idealize.ShloMosaic Idealize.SL.Sem

theorem frame_kernel : Cert.quiescent_Kernel (hKernel := Cert.Kernel.Gen.facts) := fun m ρ _ =>
  (θ_run Cert.Kernel.defs _ _).mono (fun _ h => ⟨fun c => (h.1 c).2, h.2⟩) (Cert.Kernel.Hand.run (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Hand.run (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof

end
-- ==== Proof.Sums.lean ====
/- The contents of the run at exact arithmetic: each layer call a double sum, each all-reduce a sum over the devices. -/
module

public import proofs.«01_k».proof.Proof.Rows
public import proofs.«01_k».proof.Proof.Contents
public import Idealize.ShloMosaic.Lib.MatmulPlain
public import Idealize.ShloMosaic.Lib.StackMember
public import Idealize.ShloMosaic.Lib.IdealHost
public import Idealize.ShloMosaic.Lib.Pipeline.Value

@[expose] public section

noncomputable section

namespace Cert.KernelIdeal.Hand

open Idealize.ShloMosaic
open Idealize.ShloMosaic.TcCoe
open Idealize.ShloMosaic.ValueIdx
open scoped BigOperators
open Cert.KernelIdeal.Gen

/-! ## The sum over the devices -/

/-- A sum over the devices is the own term and the partners'. -/
theorem sum_dev (c : Dev nD) (g : Dev nD → EReal) : ∑ d, g d = g c + ∑ i : Fin 7, g (peer i c) := by
  have hu : (Finset.univ : Finset (Dev nD)) = insert c (Finset.univ.map ⟨fun i => peer i c, by revert c; decide⟩) := by revert c; decide
  rw [hu, Finset.sum_insert (by revert c; decide), Finset.sum_map]
  rfl

variable (pv : Fin 3 → Dev nD → S64x2048.Idx → Elt Ideal .f32) (k : Fin 3)

/-- A partner's rows, as they are read out of their slot. -/
theorem slot_read (c : Dev nD) (i : Fin 7) :
    shapeCast S8x2048 (slv pv k c i) shapeCasts_S1x8x2048_S8x2048 = rowv (pv k (peer i c)) c := by
  unfold slv unsq
  rw [shapeCast_shapeCast]
  unfold xvOf k1_pay2
  simp only [shapeCast_self]
  rfl

theorem sumv_apply (c : Dev nD) (j : S8x2048.Idx) : sumv pv k c j = (∑ d, (pv k d ((rRow c).emb j) : EReal) : EReal) := by
  have hs : ∀ i, (shapeCast S8x2048 (slv pv k c i) shapeCasts_S1x8x2048_S8x2048 j : EReal) = pv k (peer i c) ((rRow c).emb j) :=
    fun i => congrFun (slot_read pv k c i) j
  generalize hz : (fun i => (shapeCast S8x2048 (slv pv k c i) shapeCasts_S1x8x2048_S8x2048 j : EReal)) = z
  have e : sumv pv k c j = ((((((((pv k c ((rRow c).emb j) : EReal) + z 0) + z 1) + z 2) + z 3) + z 4) + z 5) + z 6 : EReal) := by
    subst hz
    unfold sumv partv k1_pay5 k1_pay3 k1_pay4
    simp only [shapeCast_self]
    rfl
  have hz' : z = fun i => (pv k (peer i c) ((rRow c).emb j) : EReal) := hz.symm.trans (funext hs)
  subst hz'
  rw [e, sum_dev c (fun d => (pv k d ((rRow c).emb j) : EReal)), Fin.sum_univ_seven]
  simp only [add_assoc]

/-- The block of eight rows that a row is in, and where it is there. -/
def devOf (j : S64x2048.Idx) : Dev nD := ⟨(j 0).val / 8, by have h : (j 0).val < 64 := (j 0).isLt; show (j 0).val / 8 < 8; omega⟩
def inOf (j : S64x2048.Idx) : S8x2048.Idx := fun a => ⟨(![(j 0).val % 8, (j 1).val] : Fin 2 → ℕ) a, by
  have h1 : (j 1).val < 2048 := (j 1).isLt
  match a with
  | 0 => exact Nat.mod_lt _ (by decide)
  | 1 => exact h1⟩

theorem emb_inOf (j : S64x2048.Idx) : (rRow (devOf j)).emb (inOf j) = j := by
  funext a
  refine Fin.ext ?_
  match a with
  | 0 => show 8 * ((j 0).val / 8) + 1 * ((j 0).val % 8) = (j 0).val; omega
  | 1 => show 0 + 1 * (j 1).val = (j 1).val; omega

theorem gathered_apply (j : S64x2048.Idx) : k1_pay1 (gvOf pv k) j = (∑ d, (pv k d j : EReal) : EReal) := by
  have e : k1_pay1 (gvOf pv k) j = sumv pv k (devOf j) (inOf j) := by
    unfold k1_pay1 gvOf k1_pay6
    simp only [shapeCast_self]
    rfl
  rw [e, sumv_apply, emb_inOf]

/-- After an all-reduce every device holds the sum over the devices. -/
theorem outv_apply (c : Dev nD) (j : S64x2048.Idx) : outv pv k c j = (∑ d, (pv k d j : EReal) : EReal) := by
  unfold outv
  by_cases h : j ∈ (rRow c).set
  · obtain ⟨i, rfl⟩ : ∃ i, (rRow c).emb i = j := by
      rw [← Rect.map_emb_univ] at h
      obtain ⟨i, _, hi⟩ := Finset.mem_map.mp h
      exact ⟨i, hi⟩
    rw [Rect.overlay_emb, sumv_apply]
  · rw [Rect.overlay_of_not_mem _ _ _ h, gathered_apply]

/-! ## A layer call -/

/-- A hidden unit's value. -/
def hid {N : ℕ} (x : S64x2048.Idx → EReal) (w : (⟨2, ![2048, N]⟩ : Shape).Idx → EReal) (r : Fin 64) (h : Fin N) : EReal :=
  max (∑ k : Fin 2048, x (ix2 r k) * w (ix2 k h)) 0
/-- A layer over `N` hidden units. -/
def lay {N : ℕ} (x : S64x2048.Idx → EReal) (w : (⟨2, ![2048, N]⟩ : Shape).Idx → EReal) (v : (⟨2, ![N, 2048]⟩ : Shape).Idx → EReal) (r : Fin 64) (q : Fin 2048) : EReal :=
  ∑ h : Fin N, hid x w r h * v (ix2 h q)

/-- A sum over `m · n` positions, block by block. -/
theorem sum_blocks {N : ℕ} (m n : ℕ) (hN : N = m * n) (f : Fin N → EReal) :
    ∑ h, f h = ∑ a : Fin m, ∑ b : Fin n, f ⟨n * a.val + b.val, by
      subst hN
      calc n * a.val + b.val < n * a.val + n := Nat.add_lt_add_left b.isLt _
        _ = (a.val + 1) * n := by ring
        _ ≤ m * n := Nat.mul_le_mul_right _ a.isLt⟩ := by
  subst hN
  rw [← finProdFinEquiv.sum_comp, Fintype.sum_prod_type]
  refine Finset.sum_congr rfl fun a _ => Finset.sum_congr rfl fun b _ => congrArg f (Fin.ext ?_)
  show b.val + n * a.val = n * a.val + b.val
  exact Nat.add_comm _ _

theorem step_apply (x : S64x2048.Idx → Elt Ideal .f32) (w : S2048x512.Idx → Elt Ideal .f32) (acc : S64x2048.Idx → Elt Ideal .f32) (v : S512x2048.Idx → Elt Ideal .f32)
    (r : Fin 64) (q : Fin 2048) : k0_pay2 x w acc v (ix2 r q) = ((acc (ix2 r q) : EReal) + lay (N := 512) x w v r q : EReal) := by
  unfold k0_pay2
  simp only [shapeCast_self, matmul]
  have d1 : dot_S64x2048_S2048x512_S64x512_1_0_0_1_n_n = DotDims.plain 64 2048 512 := rfl
  have d2 : dot_S64x512_S512x2048_S64x2048_1_0_0_1_n_n = DotDims.plain 64 512 2048 := rfl
  rw [d1, d2]
  refine congrArg (fun y : EReal => (acc (ix2 r q) : EReal) + y) ?_
  refine (Ideal.matmul_plain_apply none _ _ _ r q).trans ?_
  refine (congrArg (fun y : EReal => y + _) Ideal.ofBits_zero_f32).trans ((zero_add _).trans ?_)
  refine Finset.sum_congr rfl fun t _ => congrArg (fun y : EReal => y * _) ?_
  refine congrArg₂ (fun a b : EReal => max a b) ?_ Ideal.ofBits_zero_f32
  refine (Ideal.matmul_plain_apply none _ _ _ r t).trans ?_
  exact (congrArg (fun y : EReal => y + _) Ideal.ofBits_zero_f32).trans (zero_add _)

variable (x : S64x2048.Idx → Elt Ideal .f32) (wi : S2048x4096.Idx → Elt Ideal .f32) (wo : S4096x2048.Idx → Elt Ideal .f32)

theorem accv_apply (r : Fin 64) (q : Fin 2048) (n : ℕ) :
    accv x wi wo n (ix2 r q) = (∑ t ∈ Finset.range n, lay (N := 512) x (colv wi (Fin.ofNat 8 t)) (blkv wo (Fin.ofNat 8 t)) r q : EReal) := by
  induction n with
  | zero =>
    show k0_pay1 (ix2 r q) = _
    unfold k0_pay1
    simp only [shapeCast_self]
    exact Ideal.ofBits_zero_f32
  | succ n ih =>
    rw [Finset.sum_range_succ, ← ih]
    exact step_apply x _ _ _ r q

/-- The part of a layer that a device computes, from its own hidden units. -/
theorem layv_apply (r : Fin 64) (q : Fin 2048) : layv x wi wo (ix2 r q) = lay (N := 4096) x wi wo r q := by
  unfold layv
  rw [accv_apply, Finset.sum_range]
  unfold lay
  rw [sum_blocks 8 512 rfl]
  refine Finset.sum_congr rfl fun n _ => Finset.sum_congr rfl fun t _ => ?_
  have hn : Fin.ofNat 8 n.val = n := Fin.ext (Nat.mod_eq_of_lt n.isLt)
  rw [hn]
  have e0 : ∀ k : Fin 2048, (rCol n).emb (ix2 k t) = ix2 k ⟨512 * n.val + t.val, by have := n.isLt; have := t.isLt; omega⟩ := fun k => by
    funext a; refine Fin.ext ?_
    match a with
    | 0 => show 0 + 1 * k.val = k.val; omega
    | 1 => show 512 * n.val + 1 * t.val = 512 * n.val + t.val; omega
  have e1 : (rBlk n).emb (ix2 t q) = ix2 ⟨512 * n.val + t.val, by have := n.isLt; have := t.isLt; omega⟩ q := by
    funext a; refine Fin.ext ?_
    match a with
    | 0 => show 512 * n.val + 1 * t.val = 512 * n.val + t.val; omega
    | 1 => show 0 + 1 * q.val = q.val; omega
  refine congrArg₂ (fun a b : EReal => a * b) ?_ (congrArg wo e1)
  refine congrArg (fun a : EReal => max a 0) (Finset.sum_congr rfl fun k _ => ?_)
  exact congrArg (fun a => (x (ix2 r k) : EReal) * wi a) (e0 k)

/-- The devices' parts add up to the whole layer. -/
theorem lay_parts (X : S64x2048.Idx → EReal) (W : (⟨2, ![2048, 32768]⟩ : Shape).Idx → EReal) (V : (⟨2, ![32768, 2048]⟩ : Shape).Idx → EReal) (r : Fin 64) (q : Fin 2048) :
    ∑ d : Dev nD, lay (N := 4096) X (Layout.block ⟨2, ![2048, 4096]⟩ ⟨2, ![2048, 32768]⟩ 1 8 d W) (Layout.block ⟨2, ![4096, 2048]⟩ ⟨2, ![32768, 2048]⟩ 0 8 d V) r q
      = lay (N := 32768) X W V r q := by
  unfold lay
  rw [sum_blocks 8 4096 rfl]
  refine Finset.sum_congr rfl fun d _ => Finset.sum_congr rfl fun t _ => ?_
  have e1 : ∀ (h : Layout.Tiles ⟨2, ![4096, 2048]⟩ ⟨2, ![32768, 2048]⟩ 0 8), h.idx d (ix2 t q) = ix2 ⟨4096 * d.val + t.val, by have : d.val < 8 := d.isLt; have := t.isLt; omega⟩ q := fun h => by
    funext a; refine Fin.ext ?_
    match a with
    | 0 => show d.val * 4096 + t.val = 4096 * d.val + t.val; omega
    | 1 => rfl
  have e0 : ∀ (h : Layout.Tiles ⟨2, ![2048, 4096]⟩ ⟨2, ![2048, 32768]⟩ 1 8) (k : Fin 2048), h.idx d (ix2 k t) = ix2 k ⟨4096 * d.val + t.val, by have : d.val < 8 := d.isLt; have := t.isLt; omega⟩ := fun h k => by
    funext a; refine Fin.ext ?_
    match a with
    | 0 => rfl
    | 1 => show d.val * 4096 + t.val = 4096 * d.val + t.val; omega
  refine congrArg₂ (fun a b : EReal => a * b) ?_ (congrArg V (e1 _))
  refine congrArg (fun a : EReal => max a 0) (Finset.sum_congr rfl fun k _ => ?_)
  exact congrArg (fun a => X (ix2 r k) * W a) (e0 _ k)

end Cert.KernelIdeal.Hand

end
-- ==== Proof.Values.lean ====
/- The kernel's result and the reference's are the same layers one after the other. -/
module

public import proofs.«01_k».proof.Defs
public import proofs.«01_k».proof.Proof.Sums
public import proofs.«01_k».proof.Proof.Launch
public import proofs.«01_k».proof.Proof.Gen.ReferenceIdeal.Run

@[expose] public section

noncomputable section

namespace Cert.KernelIdeal.Hand

open Idealize.ShloMosaic Idealize.SL.Sem
open Idealize.ShloMosaic.TcCoe
open Idealize.ShloMosaic.ValueIdx
open scoped BigOperators
open Cert.KernelIdeal.Gen

/-! ## The kernel's side -/

/-- A whole layer as an array. -/
def whole (X : S64x2048.Idx → EReal) (W : (⟨2, ![2048, 32768]⟩ : Shape).Idx → EReal) (V : (⟨2, ![32768, 2048]⟩ : Shape).Idx → EReal) : S64x2048.Idx → EReal :=
  fun j => lay (N := 32768) X W V (j 0) (j 1)

section Stage

variable (X : S64x2048.Idx → EReal) (W : (⟨2, ![2048, 32768]⟩ : Shape).Idx → EReal) (V : (⟨2, ![32768, 2048]⟩ : Shape).Idx → EReal)
  (p : Dev nD → S64x2048.Idx → Elt Ideal .f32)
  (hp : ∀ d, p d = layv (F := Ideal) X (Layout.block ⟨2, ![2048, 4096]⟩ ⟨2, ![2048, 32768]⟩ 1 8 d W) (Layout.block ⟨2, ![4096, 2048]⟩ ⟨2, ![32768, 2048]⟩ 0 8 d V))
include hp

theorem parts_apply (j : S64x2048.Idx) : (∑ d, (p d j : EReal) : EReal) = whole X W V j := by
  obtain ⟨r, q, rfl⟩ : ∃ (r : Fin 64) (q : Fin 2048), j = ix2 r q := ⟨j 0, j 1, eq_ix2 j⟩
  refine Eq.trans (Finset.sum_congr rfl fun d _ => ?_) (lay_parts X W V r q)
  rw [hp d]
  exact layv_apply _ _ _ r q

/-- One layer and the all-reduce after it. -/
theorem stage (k : Fin 3) (c : Dev nD) : outv (fun _ => p) k c = whole X W V :=
  funext fun j => (outv_apply (fun _ => p) k c j).trans (parts_apply X W V p hp j)
/-- The last layer and the sum of the own rows. -/
theorem stage_rows (k : Fin 3) (c : Dev nD) : sumv (fun _ => p) k c = Layout.block ⟨2, ![8, 2048]⟩ ⟨2, ![64, 2048]⟩ 0 8 c (whole X W V) := by
  funext j
  refine (sumv_apply (fun _ => p) k c j).trans ((parts_apply X W V p hp _).trans ?_)
  refine congrArg (whole X W V) (funext fun a => Fin.ext ?_)
  match a with
  | 0 => show 8 * c.val + 1 * (j 0).val = c.val * 8 + (j 0).val; omega
  | 1 => show 0 + 1 * (j 1).val = (j 1).val; omega

end Stage

/-! ## The reference's side -/

theorem ref_layer (X : FVec Ideal Cert.ReferenceIdeal.S64x2048 .f32) (W : FVec Ideal Cert.ReferenceIdeal.S2048x32768 .f32) (V : FVec Ideal Cert.ReferenceIdeal.S32768x2048 .f32)
    (hb : Cert.ReferenceIdeal.S_.BroadcastsInDim Cert.ReferenceIdeal.S64x32768 ![]) :
    Host.dotGeneral Cert.ReferenceIdeal.dot_S64x32768_S32768x2048_S64x2048_1_0_0_1_n_n none
        (maximumf (Host.dotGeneral Cert.ReferenceIdeal.dot_S64x2048_S2048x32768_S64x32768_1_0_0_1_n_n none X W)
          (broadcastInDim Cert.ReferenceIdeal.S64x32768 ![] hb (constant Cert.ReferenceIdeal.S_ .f32 0x00000000#32))) V
      = whole X W V := by
  funext j
  obtain ⟨r, q, rfl⟩ : ∃ (r : Fin 64) (q : Fin 2048), j = ix2 r q := ⟨j 0, j 1, eq_ix2 j⟩
  have d1 : Cert.ReferenceIdeal.dot_S64x2048_S2048x32768_S64x32768_1_0_0_1_n_n = DotDims.plain 64 2048 32768 := rfl
  have d2 : Cert.ReferenceIdeal.dot_S64x32768_S32768x2048_S64x2048_1_0_0_1_n_n = DotDims.plain 64 32768 2048 := rfl
  rw [d1, d2]
  refine (StackMember.dotGeneral_plain_apply none _ _ r q).trans ?_
  show _ = lay (N := 32768) X W V r q
  unfold lay
  refine Finset.sum_congr rfl fun h _ => congrArg (fun y : EReal => y * _) ?_
  refine congrArg₂ (fun a b : EReal => max a b) (StackMember.dotGeneral_plain_apply none _ _ r h) ?_
  exact Ideal.ofBits_zero_f32

/-! ## The claim -/

variable (m : (ℓ : Loc nD τ sig) → Buf (Elt Ideal) ℓ) (X : S64x2048.Idx → EReal)
  (W0 W1 W2 : (⟨2, ![2048, 32768]⟩ : Shape).Idx → EReal) (V0' V1' V2' : (⟨2, ![32768, 2048]⟩ : Shape).Idx → EReal)

theorem result_eq
    (h : ∀ c : Dev nD, m ((c.tc : Thread nD τ).loc main_arg0) = X
      ∧ m ((c.tc : Thread nD τ).loc main_arg1) = Layout.block ⟨2, ![2048, 4096]⟩ ⟨2, ![2048, 32768]⟩ 1 8 c W0
      ∧ m ((c.tc : Thread nD τ).loc main_arg2) = Layout.block ⟨2, ![2048, 4096]⟩ ⟨2, ![2048, 32768]⟩ 1 8 c W1
      ∧ m ((c.tc : Thread nD τ).loc main_arg3) = Layout.block ⟨2, ![2048, 4096]⟩ ⟨2, ![2048, 32768]⟩ 1 8 c W2
      ∧ m ((c.tc : Thread nD τ).loc main_arg4) = Layout.block ⟨2, ![4096, 2048]⟩ ⟨2, ![32768, 2048]⟩ 0 8 c V0'
      ∧ m ((c.tc : Thread nD τ).loc main_arg5) = Layout.block ⟨2, ![4096, 2048]⟩ ⟨2, ![32768, 2048]⟩ 0 8 c V1'
      ∧ m ((c.tc : Thread nD τ).loc main_arg6) = Layout.block ⟨2, ![4096, 2048]⟩ ⟨2, ![32768, 2048]⟩ 0 8 c V2') (c : Dev nD) :
    cR m c = Layout.block ⟨2, ![8, 2048]⟩ ⟨2, ![64, 2048]⟩ 0 8 c (whole (whole (whole X W0 V0') W1 V1') W2 V2') := by
  have a0 : ∀ d, cA0 m d = whole X W0 V0' := fun d => stage X W0 V0' (cP0 m) (fun d => by
    unfold cP0; rw [(h d).1, (h d).2.1, (h d).2.2.2.2.1]) 0 d
  have a1 : ∀ d, cA1 m d = whole (whole X W0 V0') W1 V1' := fun d => stage _ W1 V1' (cP1 m) (fun d => by
    unfold cP1; rw [a0 d, (h d).2.2.1, (h d).2.2.2.2.2.1]) 1 d
  exact stage_rows _ W2 V2' (cP2 m) (fun d => by
    unfold cP2; rw [a1 d, (h d).2.2.2.1, (h d).2.2.2.2.2.2]) 2 c

end Cert.KernelIdeal.Hand

namespace Cert.Proof

open Idealize.ShloMosaic Idealize.SL.Sem
open Cert.KernelIdeal.Hand

theorem values : Cert.algebraic_KernelIdeal_ReferenceIdeal (hKernelIdeal := Cert.KernelIdeal.Gen.facts) (hReferenceIdeal := Cert.ReferenceIdeal.Gen.facts) := fun m g m' g' _ h =>
  ⟨_, (θ_run Cert.KernelIdeal.defs _ _).mono (fun r hr c => ⟨(hr.1 c).1.trans (result_eq m _ _ _ _ _ _ _ h c), (hr.1 c).2⟩) (Cert.KernelIdeal.Hand.run (F := Ideal) m g),
    (θ_run Cert.ReferenceIdeal.defs _ _).mono (fun r hr => ⟨(hr 0).1.trans (by rw [ref_layer, ref_layer, ref_layer]), (hr 0).2⟩) (Cert.ReferenceIdeal.Value.run (F := Ideal) m' g')⟩

end Cert.Proof

end
-- ==== Proof.lean ====
module

public import proofs.«01_k».proof.Defs
public import proofs.«01_k».proof.Proof.Frames
public import proofs.«01_k».proof.Proof.Values
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, frame_kernel, frame_ideal, frame_reference, trivial, values⟩

end Cert.Proof

end
